-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S1024x256 : Shape := ⟨2, ![1024, 256]⟩
abbrev S_ : Shape := ⟨0, ![]⟩
abbrev S1 : Shape := ⟨1, ![1]⟩
abbrev S2 : Shape := ⟨1, ![2]⟩
abbrev S1x1 : Shape := ⟨2, ![1, 1]⟩
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 288
  | .vmem => 9
  | .smem => 0
  | _ => 0

abbrev hbmTy0_0 (i : Nat) : BufTy := match i % 128 with
  | 0 => ⟨S16384x256, .f32⟩
  | 1 => ⟨S1024x256, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S16384x1024, .i64⟩
  | 23 => ⟨S16384x1024, .i64⟩
  | 24 => ⟨S_, .i64⟩
  | 25 => ⟨S16384x1024, .i64⟩
  | 26 => ⟨S16384x1024, .i64⟩
  | 27 => ⟨S_, .i64⟩
  | 28 => ⟨S16384x1024, .i64⟩
  | 29 => ⟨S16384x1024, .i64⟩
  | 30 => ⟨S16384x1024, .i64⟩
  | 31 => ⟨S_, .i64⟩
  | 32 => ⟨S16384x1024, .i64⟩
  | 33 => ⟨S16384x1024, .i64⟩
  | 34 => ⟨S16384x1024, .i32⟩
  | 35 => ⟨S16384x1024, .i32⟩
  | 36 => ⟨S_, .i32⟩
  | 37 => ⟨S_, .i32⟩
  | 38 => ⟨S_, .i32⟩
  | 39 => ⟨S16384x1024, .i32⟩
  | 40 => ⟨S16384x1024, .i32⟩
  | 41 => ⟨S16384x1024, .i32⟩
  | 42 => ⟨S16384x1024, .i32⟩
  | 43 => ⟨S16384x1024, .i32⟩
  | 44 => ⟨S_, .i32⟩
  | 45 => ⟨S16384x1024, .i32⟩
  | 46 => ⟨S16384x1024, .i32⟩
  | 47 => ⟨S_, .i32⟩
  | 48 => ⟨S16384x1024, .i32⟩
  | 49 => ⟨S16384x1024, .i32⟩
  | 50 => ⟨S16384x1024, .i32⟩
  | 51 => ⟨S16384x1024, .i32⟩
  | 52 => ⟨S16384x1024, .i32⟩
  | 53 => ⟨S_, .i32⟩
  | 54 => ⟨S16384x1024, .i32⟩
  | 55 => ⟨S16384x1024, .i32⟩
  | 56 => ⟨S_, .i32⟩
  | 57 => ⟨S16384x1024, .i32⟩
  | 58 => ⟨S16384x1024, .i32⟩
  | 59 => ⟨S16384x1024, .i32⟩
  | 60 => ⟨S16384x1024, .i32⟩
  | 61 => ⟨S16384x1024, .i32⟩
  | 62 => ⟨S_, .i32⟩
  | 63 => ⟨S16384x1024, .i32⟩
  | 64 => ⟨S16384x1024, .i32⟩
  | 65 => ⟨S_, .i32⟩
  | 66 => ⟨S16384x1024, .i32⟩
  | 67 => ⟨S16384x1024, .i32⟩
  | 68 => ⟨S16384x1024, .i32⟩
  | 69 => ⟨S16384x1024, .i32⟩
  | 70 => ⟨S16384x1024, .i32⟩
  | 71 => ⟨S_, .i32⟩
  | 72 => ⟨S16384x1024, .i32⟩
  | 73 => ⟨S16384x1024, .i32⟩
  | 74 => ⟨S_, .i32⟩
  | 75 => ⟨S16384x1024, .i32⟩
  | 76 => ⟨S16384x1024, .i32⟩
  | 77 => ⟨S16384x1024, .i32⟩
  | 78 => ⟨S16384x1024, .i32⟩
  | 79 => ⟨S16384x1024, .i32⟩
  | 80 => ⟨S16384x1024, .i32⟩
  | 81 => ⟨S16384x1024, .i32⟩
  | 82 => ⟨S16384x1024, .i32⟩
  | 83 => ⟨S_, .i32⟩
  | 84 => ⟨S16384x1024, .i32⟩
  | 85 => ⟨S16384x1024, .i32⟩
  | 86 => ⟨S16384x1024, .i32⟩
  | 87 => ⟨S_, .i32⟩
  | 88 => ⟨S16384x1024, .i32⟩
  | 89 => ⟨S16384x1024, .i32⟩
  | 90 => ⟨S_, .i32⟩
  | 91 => ⟨S16384x1024, .i32⟩
  | 92 => ⟨S16384x1024, .i32⟩
  | 93 => ⟨S16384x1024, .i32⟩
  | 94 => ⟨S16384x1024, .i32⟩
  | 95 => ⟨S16384x1024, .i32⟩
  | 96 => ⟨S_, .i32⟩
  | 97 => ⟨S16384x1024, .i32⟩
  | 98 => ⟨S16384x1024, .i32⟩
  | 99 => ⟨S_, .i32⟩
  | 100 => ⟨S16384x1024, .i32⟩
  | 101 => ⟨S16384x1024, .i32⟩
  | 102 => ⟨S16384x1024, .i32⟩
  | 103 => ⟨S16384x1024, .i32⟩
  | 104 => ⟨S16384x1024, .i32⟩
  | 105 => ⟨S_, .i32⟩
  | 106 => ⟨S16384x1024, .i32⟩
  | 107 => ⟨S16384x1024, .i32⟩
  | 108 => ⟨S_, .i32⟩
  | 109 => ⟨S16384x1024, .i32⟩
  | 110 => ⟨S16384x1024, .i32⟩
  | 111 => ⟨S16384x1024, .i32⟩
  | 112 => ⟨S16384x1024, .i32⟩
  | 113 => ⟨S16384x1024, .i32⟩
  | 114 => ⟨S_, .i32⟩
  | 115 => ⟨S16384x1024, .i32⟩
  | 116 => ⟨S16384x1024, .i32⟩
  | 117 => ⟨S_, .i32⟩
  | 118 => ⟨S16384x1024, .i32⟩
  | 119 => ⟨S16384x1024, .i32⟩
  | 120 => ⟨S16384x1024, .i32⟩
  | 121 => ⟨S16384x1024, .i32⟩
  | 122 => ⟨S16384x1024, .i32⟩
  | 123 => ⟨S16384x1024, .i32⟩
  | 124 => ⟨S16384x1024, .i32⟩
  | 125 => ⟨S16384x1024, .i32⟩
  | 126 => ⟨S_, .i32⟩
  | 127 => ⟨S16384x1024, .i32⟩
  | _ => ⟨S16384x256, .f32⟩

abbrev hbmTy0_1 (i : Nat) : BufTy := match i % 128 with
  | 0 => ⟨S16384x1024, .i32⟩
  | 1 => ⟨S16384x1024, .i32⟩
  | 2 => ⟨S_, .i32⟩
  | 3 => ⟨S16384x1024, .i32⟩
  | 4 => ⟨S16384x1024, .i32⟩
  | 5 => ⟨S_, .i32⟩
  | 6 => ⟨S16384x1024, .i32⟩
  | 7 => ⟨S16384x1024, .i32⟩
  | 8 => ⟨S16384x1024, .i32⟩
  | 9 => ⟨S16384x1024, .i32⟩
  | 10 => ⟨S16384x1024, .i32⟩
  | 11 => ⟨S_, .i32⟩
  | 12 => ⟨S16384x1024, .i32⟩
  | 13 => ⟨S16384x1024, .i32⟩
  | 14 => ⟨S_, .i32⟩
  | 15 => ⟨S16384x1024, .i32⟩
  | 16 => ⟨S16384x1024, .i32⟩
  | 17 => ⟨S16384x1024, .i32⟩
  | 18 => ⟨S16384x1024, .i32⟩
  | 19 => ⟨S16384x1024, .i32⟩
  | 20 => ⟨S_, .i32⟩
  | 21 => ⟨S16384x1024, .i32⟩
  | 22 => ⟨S16384x1024, .i32⟩
  | 23 => ⟨S_, .i32⟩
  | 24 => ⟨S16384x1024, .i32⟩
  | 25 => ⟨S16384x1024, .i32⟩
  | 26 => ⟨S16384x1024, .i32⟩
  | 27 => ⟨S16384x1024, .i32⟩
  | 28 => ⟨S16384x1024, .i32⟩
  | 29 => ⟨S_, .i32⟩
  | 30 => ⟨S16384x1024, .i32⟩
  | 31 => ⟨S16384x1024, .i32⟩
  | 32 => ⟨S_, .i32⟩
  | 33 => ⟨S16384x1024, .i32⟩
  | 34 => ⟨S16384x1024, .i32⟩
  | 35 => ⟨S16384x1024, .i32⟩
  | 36 => ⟨S16384x1024, .i32⟩
  | 37 => ⟨S16384x1024, .i32⟩
  | 38 => ⟨S16384x1024, .i32⟩
  | 39 => ⟨S16384x1024, .i32⟩
  | 40 => ⟨S16384x1024, .i32⟩
  | 41 => ⟨S_, .i32⟩
  | 42 => ⟨S16384x1024, .i32⟩
  | 43 => ⟨S16384x1024, .i32⟩
  | 44 => ⟨S16384x1024, .i32⟩
  | 45 => ⟨S_, .i32⟩
  | 46 => ⟨S16384x1024, .i32⟩
  | 47 => ⟨S16384x1024, .i32⟩
  | 48 => ⟨S_, .i32⟩
  | 49 => ⟨S16384x1024, .i32⟩
  | 50 => ⟨S16384x1024, .i32⟩
  | 51 => ⟨S16384x1024, .i32⟩
  | 52 => ⟨S16384x1024, .i32⟩
  | 53 => ⟨S16384x1024, .i32⟩
  | 54 => ⟨S_, .i32⟩
  | 55 => ⟨S16384x1024, .i32⟩
  | 56 => ⟨S16384x1024, .i32⟩
  | 57 => ⟨S_, .i32⟩
  | 58 => ⟨S16384x1024, .i32⟩
  | 59 => ⟨S16384x1024, .i32⟩
  | 60 => ⟨S16384x1024, .i32⟩
  | 61 => ⟨S16384x1024, .i32⟩
  | 62 => ⟨S16384x1024, .i32⟩
  | 63 => ⟨S_, .i32⟩
  | 64 => ⟨S16384x1024, .i32⟩
  | 65 => ⟨S16384x1024, .i32⟩
  | 66 => ⟨S_, .i32⟩
  | 67 => ⟨S16384x1024, .i32⟩
  | 68 => ⟨S16384x1024, .i32⟩
  | 69 => ⟨S16384x1024, .i32⟩
  | 70 => ⟨S16384x1024, .i32⟩
  | 71 => ⟨S16384x1024, .i32⟩
  | 72 => ⟨S_, .i32⟩
  | 73 => ⟨S16384x1024, .i32⟩
  | 74 => ⟨S16384x1024, .i32⟩
  | 75 => ⟨S_, .i32⟩
  | 76 => ⟨S16384x1024, .i32⟩
  | 77 => ⟨S16384x1024, .i32⟩
  | 78 => ⟨S16384x1024, .i32⟩
  | 79 => ⟨S16384x1024, .i32⟩
  | 80 => ⟨S16384x1024, .i32⟩
  | 81 => ⟨S16384x1024, .i32⟩
  | 82 => ⟨S16384x1024, .i32⟩
  | 83 => ⟨S16384x1024, .i32⟩
  | 84 => ⟨S_, .i32⟩
  | 85 => ⟨S16384x1024, .i32⟩
  | 86 => ⟨S16384x1024, .i32⟩
  | 87 => ⟨S16384x1024, .i32⟩
  | 88 => ⟨S_, .i32⟩
  | 89 => ⟨S16384x1024, .i32⟩
  | 90 => ⟨S16384x1024, .i32⟩
  | 91 => ⟨S_, .i32⟩
  | 92 => ⟨S16384x1024, .i32⟩
  | 93 => ⟨S16384x1024, .i32⟩
  | 94 => ⟨S16384x1024, .i32⟩
  | 95 => ⟨S16384x1024, .i32⟩
  | 96 => ⟨S16384x1024, .i32⟩
  | 97 => ⟨S_, .i32⟩
  | 98 => ⟨S16384x1024, .i32⟩
  | 99 => ⟨S16384x1024, .i32⟩
  | 100 => ⟨S_, .i32⟩
  | 101 => ⟨S16384x1024, .i32⟩
  | 102 => ⟨S16384x1024, .i32⟩
  | 103 => ⟨S16384x1024, .i32⟩
  | 104 => ⟨S16384x1024, .i32⟩
  | 105 => ⟨S16384x1024, .i32⟩
  | 106 => ⟨S_, .i32⟩
  | 107 => ⟨S16384x1024, .i32⟩
  | 108 => ⟨S16384x1024, .i32⟩
  | 109 => ⟨S_, .i32⟩
  | 110 => ⟨S16384x1024, .i32⟩
  | 111 => ⟨S16384x1024, .i32⟩
  | 112 => ⟨S16384x1024, .i32⟩
  | 113 => ⟨S16384x1024, .i32⟩
  | 114 => ⟨S16384x1024, .i32⟩
  | 115 => ⟨S_, .i32⟩
  | 116 => ⟨S16384x1024, .i32⟩
  | 117 => ⟨S16384x1024, .i32⟩
  | 118 => ⟨S_, .i32⟩
  | 119 => ⟨S16384x1024, .i32⟩
  | 120 => ⟨S16384x1024, .i32⟩
  | 121 => ⟨S16384x1024, .i32⟩
  | 122 => ⟨S16384x1024, .i32⟩
  | 123 => ⟨S16384x1024, .i32⟩
  | 124 => ⟨S16384x1024, .i32⟩
  | 125 => ⟨S16384x1024, .i32⟩
  | 126 => ⟨S16384x1024, .i32⟩
  | 127 => ⟨S_, .i32⟩
  | _ => ⟨S16384x256, .f32⟩

abbrev hbmTy0_2 (i : Nat) : BufTy := match i % 128 with
  | 0 => ⟨S16384x1024, .i32⟩
  | 1 => ⟨S16384x1024, .i32⟩
  | 2 => ⟨S16384x1024, .i32⟩
  | 3 => ⟨S_, .i32⟩
  | 4 => ⟨S16384x1024, .i32⟩
  | 5 => ⟨S16384x1024, .i32⟩
  | 6 => ⟨S_, .i32⟩
  | 7 => ⟨S16384x1024, .i32⟩
  | 8 => ⟨S16384x1024, .i32⟩
  | 9 => ⟨S16384x1024, .f32⟩
  | 10 => ⟨S_, .f32⟩
  | 11 => ⟨S16384x1024, .f32⟩
  | 12 => ⟨S16384x1024, .f32⟩
  | 13 => ⟨S1x1, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S16384x1024, .f32⟩
  | 29 => ⟨S16384x1024, .f32⟩
  | 30 => ⟨S16384x1024, .f32⟩
  | 31 => ⟨S16384x256, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x256, .f32⟩
  | .local _ .vmem, ⟨8, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c_1 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst : Ref sig .tc := ⟨.hbm, 12, rfl⟩
abbrev main_call0_cst_2 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_c : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_0 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_c_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v19_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v19_1 : Ref sig .tc := ⟨.hbm, 257, rfl⟩
abbrev main_call0_call0_v20 : Ref sig .tc := ⟨.hbm, 258, rfl⟩
abbrev main_call0_call0_c_2 : Ref sig .tc := ⟨.hbm, 259, rfl⟩
abbrev main_call0_call0_v21 : Ref sig .tc := ⟨.hbm, 260, rfl⟩
abbrev main_call0_call0_v22 : Ref sig .tc := ⟨.hbm, 261, rfl⟩
abbrev main_call0_call0_c_3 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_v25 : Ref sig .tc := ⟨.hbm, 265, rfl⟩
abbrev main_call0_call0_cst : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_call0_v33 : Ref sig .tc := ⟨.hbm, 274, rfl⟩
abbrev main_call0_v7 : Ref sig .tc := ⟨.hbm, 275, rfl⟩
abbrev main_call0_cst_3 : Ref sig .tc := ⟨.hbm, 276, rfl⟩
abbrev main_call0_v8 : Ref sig .tc := ⟨.hbm, 277, rfl⟩
abbrev main_call0_v9 : Ref sig .tc := ⟨.hbm, 278, rfl⟩
abbrev main_call0_v10 : Ref sig .tc := ⟨.hbm, 279, rfl⟩
abbrev main_call0_v11 : Ref sig .tc := ⟨.hbm, 280, rfl⟩
abbrev main_call0_cst_4 : Ref sig .tc := ⟨.hbm, 281, rfl⟩
abbrev main_call0_v12 : Ref sig .tc := ⟨.hbm, 282, rfl⟩
abbrev main_call0_v13 : Ref sig .tc := ⟨.hbm, 283, rfl⟩
abbrev main_call0_v14 : Ref sig .tc := ⟨.hbm, 284, rfl⟩
abbrev main_call0_v15 : Ref sig .tc := ⟨.hbm, 285, rfl⟩
abbrev main_v0_0 : Ref sig .tc := ⟨.hbm, 286, rfl⟩
abbrev main_v0_1 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S256x1024 : Shape := ⟨2, ![256, 1024]⟩
abbrev S16384x1024 : Shape := ⟨2, ![16384, 1024]⟩
abbrev S1 : Shape := ⟨1, ![1]⟩
abbrev S2 : Shape := ⟨1, ![2]⟩
abbrev S1x1 : Shape := ⟨2, ![1, 1]⟩

abbrev nBuf : Space → Nat
  | .hbm => 333
  | .vmem => 0
  | .smem => 0
  | _ => 0

abbrev hbmTy0_0 (i : Nat) : BufTy := match i % 128 with
  | 0 => ⟨S16384x256, .f32⟩
  | 1 => ⟨S1024x256, .f32⟩
  | 2 => ⟨S16384x256, .f32⟩
  | 3 => ⟨S_, .f32⟩
  | 4 => ⟨S16384, .f32⟩
  | 5 => ⟨S16384x1, .f32⟩
  | 6 => ⟨S16384x1, .f32⟩
  | 7 => ⟨S_, .f32⟩
  | 8 => ⟨S16384x1, .f32⟩
  | 9 => ⟨S16384x1, .f32⟩
  | 10 => ⟨S16384x256, .f32⟩
  | 11 => ⟨S16384x256, .f32⟩
  | 12 => ⟨S1024x256, .f32⟩
  | 13 => ⟨S_, .f32⟩
  | 14 => ⟨S1024, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x256, .f32⟩
  | 21 => ⟨S1024x256, .f32⟩
  | 22 => ⟨S_, .f32⟩
  | 23 => ⟨S_, .f32⟩
  | 24 => ⟨S_, .f32⟩
  | 25 => ⟨S_, .f32⟩
  | 26 => ⟨S256x1024, .f32⟩
  | 27 => ⟨S16384x1024, .f32⟩
  | 28 => ⟨S16384x1024, .f32⟩
  | 29 => ⟨S16384x1024, .f32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S_, .f32⟩
  | 42 => ⟨S_, .f32⟩
  | 43 => ⟨S_, .f32⟩
  | 44 => ⟨S1x1, .f32⟩
  | 45 => ⟨S1x1, .f32⟩
  | 46 => ⟨S1, .i32⟩
  | 47 => ⟨S_, .i32⟩
  | 48 => ⟨S1, .i32⟩
  | 49 => ⟨S_, .i32⟩
  | 50 => ⟨S16384x1024, .i64⟩
  | 51 => ⟨S16384x1024, .i64⟩
  | 52 => ⟨S_, .i64⟩
  | 53 => ⟨S16384x1024, .i64⟩
  | 54 => ⟨S16384x1024, .i64⟩
  | 55 => ⟨S_, .i64⟩
  | 56 => ⟨S16384x1024, .i64⟩
  | 57 => ⟨S16384x1024, .i64⟩
  | 58 => ⟨S16384x1024, .i64⟩
  | 59 => ⟨S_, .i64⟩
  | 60 => ⟨S16384x1024, .i64⟩
  | 61 => ⟨S16384x1024, .i64⟩
  | 62 => ⟨S16384x1024, .i32⟩
  | 63 => ⟨S16384x1024, .i32⟩
  | 64 => ⟨S_, .i32⟩
  | 65 => ⟨S_, .i32⟩
  | 66 => ⟨S_, .i32⟩
  | 67 => ⟨S16384x1024, .i32⟩
  | 68 => ⟨S16384x1024, .i32⟩
  | 69 => ⟨S16384x1024, .i32⟩
  | 70 => ⟨S16384x1024, .i32⟩
  | 71 => ⟨S16384x1024, .i32⟩
  | 72 => ⟨S_, .i32⟩
  | 73 => ⟨S16384x1024, .i32⟩
  | 74 => ⟨S16384x1024, .i32⟩
  | 75 => ⟨S_, .i32⟩
  | 76 => ⟨S16384x1024, .i32⟩
  | 77 => ⟨S16384x1024, .i32⟩
  | 78 => ⟨S16384x1024, .i32⟩
  | 79 => ⟨S16384x1024, .i32⟩
  | 80 => ⟨S16384x1024, .i32⟩
  | 81 => ⟨S_, .i32⟩
  | 82 => ⟨S16384x1024, .i32⟩
  | 83 => ⟨S16384x1024, .i32⟩
  | 84 => ⟨S_, .i32⟩
  | 85 => ⟨S16384x1024, .i32⟩
  | 86 => ⟨S16384x1024, .i32⟩
  | 87 => ⟨S16384x1024, .i32⟩
  | 88 => ⟨S16384x1024, .i32⟩
  | 89 => ⟨S16384x1024, .i32⟩
  | 90 => ⟨S_, .i32⟩
  | 91 => ⟨S16384x1024, .i32⟩
  | 92 => ⟨S16384x1024, .i32⟩
  | 93 => ⟨S_, .i32⟩
  | 94 => ⟨S16384x1024, .i32⟩
  | 95 => ⟨S16384x1024, .i32⟩
  | 96 => ⟨S16384x1024, .i32⟩
  | 97 => ⟨S16384x1024, .i32⟩
  | 98 => ⟨S16384x1024, .i32⟩
  | 99 => ⟨S_, .i32⟩
  | 100 => ⟨S16384x1024, .i32⟩
  | 101 => ⟨S16384x1024, .i32⟩
  | 102 => ⟨S_, .i32⟩
  | 103 => ⟨S16384x1024, .i32⟩
  | 104 => ⟨S16384x1024, .i32⟩
  | 105 => ⟨S16384x1024, .i32⟩
  | 106 => ⟨S16384x1024, .i32⟩
  | 107 => ⟨S16384x1024, .i32⟩
  | 108 => ⟨S16384x1024, .i32⟩
  | 109 => ⟨S16384x1024, .i32⟩
  | 110 => ⟨S16384x1024, .i32⟩
  | 111 => ⟨S_, .i32⟩
  | 112 => ⟨S16384x1024, .i32⟩
  | 113 => ⟨S16384x1024, .i32⟩
  | 114 => ⟨S16384x1024, .i32⟩
  | 115 => ⟨S_, .i32⟩
  | 116 => ⟨S16384x1024, .i32⟩
  | 117 => ⟨S16384x1024, .i32⟩
  | 118 => ⟨S_, .i32⟩
  | 119 => ⟨S16384x1024, .i32⟩
  | 120 => ⟨S16384x1024, .i32⟩
  | 121 => ⟨S16384x1024, .i32⟩
  | 122 => ⟨S16384x1024, .i32⟩
  | 123 => ⟨S16384x1024, .i32⟩
  | 124 => ⟨S_, .i32⟩
  | 125 => ⟨S16384x1024, .i32⟩
  | 126 => ⟨S16384x1024, .i32⟩
  | 127 => ⟨S_, .i32⟩
  | _ => ⟨S16384x256, .f32⟩

abbrev hbmTy0_1 (i : Nat) : BufTy := match i % 128 with
  | 0 => ⟨S16384x1024, .i32⟩
  | 1 => ⟨S16384x1024, .i32⟩
  | 2 => ⟨S16384x1024, .i32⟩
  | 3 => ⟨S16384x1024, .i32⟩
  | 4 => ⟨S16384x1024, .i32⟩
  | 5 => ⟨S_, .i32⟩
  | 6 => ⟨S16384x1024, .i32⟩
  | 7 => ⟨S16384x1024, .i32⟩
  | 8 => ⟨S_, .i32⟩
  | 9 => ⟨S16384x1024, .i32⟩
  | 10 => ⟨S16384x1024, .i32⟩
  | 11 => ⟨S16384x1024, .i32⟩
  | 12 => ⟨S16384x1024, .i32⟩
  | 13 => ⟨S16384x1024, .i32⟩
  | 14 => ⟨S_, .i32⟩
  | 15 => ⟨S16384x1024, .i32⟩
  | 16 => ⟨S16384x1024, .i32⟩
  | 17 => ⟨S_, .i32⟩
  | 18 => ⟨S16384x1024, .i32⟩
  | 19 => ⟨S16384x1024, .i32⟩
  | 20 => ⟨S16384x1024, .i32⟩
  | 21 => ⟨S16384x1024, .i32⟩
  | 22 => ⟨S16384x1024, .i32⟩
  | 23 => ⟨S16384x1024, .i32⟩
  | 24 => ⟨S16384x1024, .i32⟩
  | 25 => ⟨S16384x1024, .i32⟩
  | 26 => ⟨S_, .i32⟩
  | 27 => ⟨S16384x1024, .i32⟩
  | 28 => ⟨S16384x1024, .i32⟩
  | 29 => ⟨S16384x1024, .i32⟩
  | 30 => ⟨S_, .i32⟩
  | 31 => ⟨S16384x1024, .i32⟩
  | 32 => ⟨S16384x1024, .i32⟩
  | 33 => ⟨S_, .i32⟩
  | 34 => ⟨S16384x1024, .i32⟩
  | 35 => ⟨S16384x1024, .i32⟩
  | 36 => ⟨S16384x1024, .i32⟩
  | 37 => ⟨S16384x1024, .i32⟩
  | 38 => ⟨S16384x1024, .i32⟩
  | 39 => ⟨S_, .i32⟩
  | 40 => ⟨S16384x1024, .i32⟩
  | 41 => ⟨S16384x1024, .i32⟩
  | 42 => ⟨S_, .i32⟩
  | 43 => ⟨S16384x1024, .i32⟩
  | 44 => ⟨S16384x1024, .i32⟩
  | 45 => ⟨S16384x1024, .i32⟩
  | 46 => ⟨S16384x1024, .i32⟩
  | 47 => ⟨S16384x1024, .i32⟩
  | 48 => ⟨S_, .i32⟩
  | 49 => ⟨S16384x1024, .i32⟩
  | 50 => ⟨S16384x1024, .i32⟩
  | 51 => ⟨S_, .i32⟩
  | 52 => ⟨S16384x1024, .i32⟩
  | 53 => ⟨S16384x1024, .i32⟩
  | 54 => ⟨S16384x1024, .i32⟩
  | 55 => ⟨S16384x1024, .i32⟩
  | 56 => ⟨S16384x1024, .i32⟩
  | 57 => ⟨S_, .i32⟩
  | 58 => ⟨S16384x1024, .i32⟩
  | 59 => ⟨S16384x1024, .i32⟩
  | 60 => ⟨S_, .i32⟩
  | 61 => ⟨S16384x1024, .i32⟩
  | 62 => ⟨S16384x1024, .i32⟩
  | 63 => ⟨S16384x1024, .i32⟩
  | 64 => ⟨S16384x1024, .i32⟩
  | 65 => ⟨S16384x1024, .i32⟩
  | 66 => ⟨S16384x1024, .i32⟩
  | 67 => ⟨S16384x1024, .i32⟩
  | 68 => ⟨S16384x1024, .i32⟩
  | 69 => ⟨S_, .i32⟩
  | 70 => ⟨S16384x1024, .i32⟩
  | 71 => ⟨S16384x1024, .i32⟩
  | 72 => ⟨S16384x1024, .i32⟩
  | 73 => ⟨S_, .i32⟩
  | 74 => ⟨S16384x1024, .i32⟩
  | 75 => ⟨S16384x1024, .i32⟩
  | 76 => ⟨S_, .i32⟩
  | 77 => ⟨S16384x1024, .i32⟩
  | 78 => ⟨S16384x1024, .i32⟩
  | 79 => ⟨S16384x1024, .i32⟩
  | 80 => ⟨S16384x1024, .i32⟩
  | 81 => ⟨S16384x1024, .i32⟩
  | 82 => ⟨S_, .i32⟩
  | 83 => ⟨S16384x1024, .i32⟩
  | 84 => ⟨S16384x1024, .i32⟩
  | 85 => ⟨S_, .i32⟩
  | 86 => ⟨S16384x1024, .i32⟩
  | 87 => ⟨S16384x1024, .i32⟩
  | 88 => ⟨S16384x1024, .i32⟩
  | 89 => ⟨S16384x1024, .i32⟩
  | 90 => ⟨S16384x1024, .i32⟩
  | 91 => ⟨S_, .i32⟩
  | 92 => ⟨S16384x1024, .i32⟩
  | 93 => ⟨S16384x1024, .i32⟩
  | 94 => ⟨S_, .i32⟩
  | 95 => ⟨S16384x1024, .i32⟩
  | 96 => ⟨S16384x1024, .i32⟩
  | 97 => ⟨S16384x1024, .i32⟩
  | 98 => ⟨S16384x1024, .i32⟩
  | 99 => ⟨S16384x1024, .i32⟩
  | 100 => ⟨S_, .i32⟩
  | 101 => ⟨S16384x1024, .i32⟩
  | 102 => ⟨S16384x1024, .i32⟩
  | 103 => ⟨S_, .i32⟩
  | 104 => ⟨S16384x1024, .i32⟩
  | 105 => ⟨S16384x1024, .i32⟩
  | 106 => ⟨S16384x1024, .i32⟩
  | 107 => ⟨S16384x1024, .i32⟩
  | 108 => ⟨S16384x1024, .i32⟩
  | 109 => ⟨S16384x1024, .i32⟩
  | 110 => ⟨S16384x1024, .i32⟩
  | 111 => ⟨S16384x1024, .i32⟩
  | 112 => ⟨S_, .i32⟩
  | 113 => ⟨S16384x1024, .i32⟩
  | 114 => ⟨S16384x1024, .i32⟩
  | 115 => ⟨S16384x1024, .i32⟩
  | 116 => ⟨S_, .i32⟩
  | 117 => ⟨S16384x1024, .i32⟩
  | 118 => ⟨S16384x1024, .i32⟩
  | 119 => ⟨S_, .i32⟩
  | 120 => ⟨S16384x1024, .i32⟩
  | 121 => ⟨S16384x1024, .i32⟩
  | 122 => ⟨S16384x1024, .i32⟩
  | 123 => ⟨S16384x1024, .i32⟩
  | 124 => ⟨S16384x1024, .i32⟩
  | 125 => ⟨S_, .i32⟩
  | 126 => ⟨S16384x1024, .i32⟩
  | 127 => ⟨S16384x1024, .i32⟩
  | _ => ⟨S16384x256, .f32⟩

abbrev hbmTy0_2 (i : Nat) : BufTy := match i % 128 with
  | 0 => ⟨S_, .i32⟩
  | 1 => ⟨S16384x1024, .i32⟩
  | 2 => ⟨S16384x1024, .i32⟩
  | 3 => ⟨S16384x1024, .i32⟩
  | 4 => ⟨S16384x1024, .i32⟩
  | 5 => ⟨S16384x1024, .i32⟩
  | 6 => ⟨S_, .i32⟩
  | 7 => ⟨S16384x1024, .i32⟩
  | 8 => ⟨S16384x1024, .i32⟩
  | 9 => ⟨S_, .i32⟩
  | 10 => ⟨S16384x1024, .i32⟩
  | 11 => ⟨S16384x1024, .i32⟩
  | 12 => ⟨S16384x1024, .i32⟩
  | 13 => ⟨S16384x1024, .i32⟩
  | 14 => ⟨S16384x1024, .i32⟩
  | 15 => ⟨S_, .i32⟩
  | 16 => ⟨S16384x1024, .i32⟩
  | 17 => ⟨S16384x1024, .i32⟩
  | 18 => ⟨S_, .i32⟩
  | 19 => ⟨S16384x1024, .i32⟩
  | 20 => ⟨S16384x1024, .i32⟩
  | 21 => ⟨S16384x1024, .i32⟩
  | 22 => ⟨S16384x1024, .i32⟩
  | 23 => ⟨S16384x1024, .i32⟩
  | 24 => ⟨S16384x1024, .i32⟩
  | 25 => ⟨S16384x1024, .i32⟩
  | 26 => ⟨S16384x1024, .i32⟩
  | 27 => ⟨S_, .i32⟩
  | 28 => ⟨S16384x1024, .i32⟩
  | 29 => ⟨S16384x1024, .i32⟩
  | 30 => ⟨S16384x1024, .i32⟩
  | 31 => ⟨S_, .i32⟩
  | 32 => ⟨S16384x1024, .i32⟩
  | 33 => ⟨S16384x1024, .i32⟩
  | 34 => ⟨S_, .i32⟩
  | 35 => ⟨S16384x1024, .i32⟩
  | 36 => ⟨S16384x1024, .i32⟩
  | 37 => ⟨S16384x1024, .f32⟩
  | 38 => ⟨S_, .f32⟩
  | 39 => ⟨S16384x1024, .f32⟩
  | 40 => ⟨S16384x1024, .f32⟩
  | 41 => ⟨S1x1, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S_, .f32⟩
  | 63 => ⟨S16384, .f32⟩
  | 64 => ⟨S_, .f32⟩
  | 65 => ⟨S16384, .f32⟩
  | 66 => ⟨S16384, .f32⟩
  | 67 => ⟨S16384x1, .f32⟩
  | 68 => ⟨S16384x1024, .f32⟩
  | 69 => ⟨S16384x1024, .f32⟩
  | 70 => ⟨S16384x1024, .f32⟩
  | 71 => ⟨S_, .f32⟩
  | 72 => ⟨S16384, .f32⟩
  | 73 => ⟨S16384x1, .f32⟩
  | 74 => ⟨S16384x1024, .f32⟩
  | 75 => ⟨S16384x1024, .f32⟩
  | 76 => ⟨S16384x256, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_cst_8 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_c : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_c_1 : Ref sig .tc := ⟨.hbm, 59, rfl⟩
abbrev main_call0_v15 : Ref sig .tc := ⟨.hbm, 60, rfl⟩
abbrev main_call0_v16 : Ref sig .tc := ⟨.hbm, 61, rfl⟩
abbrev main_call0_v17 : Ref sig .tc := ⟨.hbm, 62, rfl⟩
abbrev main_call0_v18 : Ref sig .tc := ⟨.hbm, 63, rfl⟩
abbrev main_call0_call0_v0 : Ref sig .tc := ⟨.hbm, 64, rfl⟩
abbrev main_call0_call0_c : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_c_0 : Ref sig .tc := ⟨.hbm, 72, rfl⟩
abbrev main_call0_call0_v7 : Ref sig .tc := ⟨.hbm, 73, rfl⟩
abbrev main_call0_call0_v8 : Ref sig .tc := ⟨.hbm, 74, rfl⟩
abbrev main_call0_call0_c_1 : Ref sig .tc := ⟨.hbm, 75, rfl⟩
abbrev main_call0_call0_v9 : Ref sig .tc := ⟨.hbm, 76, rfl⟩
abbrev main_call0_call0_v10 : Ref sig .tc := ⟨.hbm, 77, rfl⟩
abbrev main_call0_call0_v11 : Ref sig .tc := ⟨.hbm, 78, rfl⟩
abbrev main_call0_call0_v12 : Ref sig .tc := ⟨.hbm, 79, rfl⟩
abbrev main_call0_call0_v13 : Ref sig .tc := ⟨.hbm, 80, rfl⟩
abbrev main_call0_call0_c_2 : Ref sig .tc := ⟨.hbm, 81, rfl⟩
abbrev main_call0_call0_v14 : Ref sig .tc := ⟨.hbm, 82, rfl⟩
abbrev main_call0_call0_v15 : Ref sig .tc := ⟨.hbm, 83, rfl⟩
abbrev main_call0_call0_c_3 : Ref sig .tc := ⟨.hbm, 84, rfl⟩
abbrev main_call0_call0_v16 : Ref sig .tc := ⟨.hbm, 85, rfl⟩
abbrev main_call0_call0_v17 : Ref sig .tc := ⟨.hbm, 86, rfl⟩
abbrev main_call0_call0_v18 : Ref sig .tc := ⟨.hbm, 87, rfl⟩
abbrev main_call0_call0_v19 : Ref sig .tc := ⟨.hbm, 88, rfl⟩
abbrev main_call0_call0_v20 : Ref sig .tc := ⟨.hbm, 89, rfl⟩
abbrev main_call0_call0_c_4 : Ref sig .tc := ⟨.hbm, 90, rfl⟩
abbrev main_call0_call0_v21 : Ref sig .tc := ⟨.hbm, 91, rfl⟩
abbrev main_call0_call0_v22 : Ref sig .tc := ⟨.hbm, 92, rfl⟩
abbrev main_call0_call0_c_5 : Ref sig .tc := ⟨.hbm, 93, rfl⟩
abbrev main_call0_call0_v23 : Ref sig .tc := ⟨.hbm, 94, rfl⟩
abbrev main_call0_call0_v24 : Ref sig .tc := ⟨.hbm, 95, rfl⟩
abbrev main_call0_call0_v25 : Ref sig .tc := ⟨.hbm, 96, rfl⟩
abbrev main_call0_call0_v26 : Ref sig .tc := ⟨.hbm, 97, rfl⟩
abbrev main_call0_call0_v27 : Ref sig .tc := ⟨.hbm, 98, rfl⟩
abbrev main_call0_call0_c_6 : Ref sig .tc := ⟨.hbm, 99, rfl⟩
abbrev main_call0_call0_v28 : Ref sig .tc := ⟨.hbm, 100, rfl⟩
abbrev main_call0_call0_v29 : Ref sig .tc := ⟨.hbm, 101, rfl⟩
abbrev main_call0_call0_c_7 : Ref sig .tc := ⟨.hbm, 102, rfl⟩
abbrev main_call0_call0_v30 : Ref sig .tc := ⟨.hbm, 103, rfl⟩
abbrev main_call0_call0_v31 : Ref sig .tc := ⟨.hbm, 104, rfl⟩
abbrev main_call0_call0_v32 : Ref sig .tc := ⟨.hbm, 105, rfl⟩
abbrev main_call0_call0_v33 : Ref sig .tc := ⟨.hbm, 106, rfl⟩
abbrev main_call0_call0_v34 : Ref sig .tc := ⟨.hbm, 107, rfl⟩
abbrev main_call0_call0_v35 : Ref sig .tc := ⟨.hbm, 108, rfl⟩
abbrev main_call0_call0_v36 : Ref sig .tc := ⟨.hbm, 109, rfl⟩
abbrev main_call0_call0_v37 : Ref sig .tc := ⟨.hbm, 110, rfl⟩
abbrev main_call0_call0_c_8 : Ref sig .tc := ⟨.hbm, 111, rfl⟩
abbrev main_call0_call0_v38 : Ref sig .tc := ⟨.hbm, 112, rfl⟩
abbrev main_call0_call0_v39 : Ref sig .tc := ⟨.hbm, 113, rfl⟩
abbrev main_call0_call0_v40 : Ref sig .tc := ⟨.hbm, 114, rfl⟩
abbrev main_call0_call0_c_9 : Ref sig .tc := ⟨.hbm, 115, rfl⟩
abbrev main_call0_call0_v41 : Ref sig .tc := ⟨.hbm, 116, rfl⟩
abbrev main_call0_call0_v42 : Ref sig .tc := ⟨.hbm, 117, rfl⟩
abbrev main_call0_call0_c_10 : Ref sig .tc := ⟨.hbm, 118, rfl⟩
abbrev main_call0_call0_v43 : Ref sig .tc := ⟨.hbm, 119, rfl⟩
abbrev main_call0_call0_v44 : Ref sig .tc := ⟨.hbm, 120, rfl⟩
abbrev main_call0_call0_v45 : Ref sig .tc := ⟨.hbm, 121, rfl⟩
abbrev main_call0_call0_v46 : Ref sig .tc := ⟨.hbm, 122, rfl⟩
abbrev main_call0_call0_v47 : Ref sig .tc := ⟨.hbm, 123, rfl⟩
abbrev main_call0_call0_c_11 : Ref sig .tc := ⟨.hbm, 124, rfl⟩
abbrev main_call0_call0_v48 : Ref sig .tc := ⟨.hbm, 125, rfl⟩
abbrev main_call0_call0_v49 : Ref sig .tc := ⟨.hbm, 126, rfl⟩
abbrev main_call0_call0_c_12 : Ref sig .tc := ⟨.hbm, 127, rfl⟩
abbrev main_call0_call0_v50 : Ref sig .tc := ⟨.hbm, 128, rfl⟩
abbrev main_call0_call0_v51 : Ref sig .tc := ⟨.hbm, 129, rfl⟩
abbrev main_call0_call0_v52 : Ref sig .tc := ⟨.hbm, 130, rfl⟩
abbrev main_call0_call0_v53 : Ref sig .tc := ⟨.hbm, 131, rfl⟩
abbrev main_call0_call0_v54 : Ref sig .tc := ⟨.hbm, 132, rfl⟩
abbrev main_call0_call0_c_13 : Ref sig .tc := ⟨.hbm, 133, rfl⟩
abbrev main_call0_call0_v55 : Ref sig .tc := ⟨.hbm, 134, rfl⟩
abbrev main_call0_call0_v56 : Ref sig .tc := ⟨.hbm, 135, rfl⟩
abbrev main_call0_call0_c_14 : Ref sig .tc := ⟨.hbm, 136, rfl⟩
abbrev main_call0_call0_v57 : Ref sig .tc := ⟨.hbm, 137, rfl⟩
abbrev main_call0_call0_v58 : Ref sig .tc := ⟨.hbm, 138, rfl⟩
abbrev main_call0_call0_v59 : Ref sig .tc := ⟨.hbm, 139, rfl⟩
abbrev main_call0_call0_v60 : Ref sig .tc := ⟨.hbm, 140, rfl⟩
abbrev main_call0_call0_v61 : Ref sig .tc := ⟨.hbm, 141, rfl⟩
abbrev main_call0_call0_c_15 : Ref sig .tc := ⟨.hbm, 142, rfl⟩
abbrev main_call0_call0_v62 : Ref sig .tc := ⟨.hbm, 143, rfl⟩
abbrev main_call0_call0_v63 : Ref sig .tc := ⟨.hbm, 144, rfl⟩
abbrev main_call0_call0_c_16 : Ref sig .tc := ⟨.hbm, 145, rfl⟩
abbrev main_call0_call0_v64 : Ref sig .tc := ⟨.hbm, 146, rfl⟩
abbrev main_call0_call0_v65 : Ref sig .tc := ⟨.hbm, 147, rfl⟩
abbrev main_call0_call0_v66 : Ref sig .tc := ⟨.hbm, 148, rfl⟩
abbrev main_call0_call0_v67 : Ref sig .tc := ⟨.hbm, 149, rfl⟩
abbrev main_call0_call0_v68 : Ref sig .tc := ⟨.hbm, 150, rfl⟩
abbrev main_call0_call0_v69 : Ref sig .tc := ⟨.hbm, 151, rfl⟩
abbrev main_call0_call0_v70 : Ref sig .tc := ⟨.hbm, 152, rfl⟩
abbrev main_call0_call0_v71 : Ref sig .tc := ⟨.hbm, 153, rfl⟩
abbrev main_call0_call0_c_17 : Ref sig .tc := ⟨.hbm, 154, rfl⟩
abbrev main_call0_call0_v72 : Ref sig .tc := ⟨.hbm, 155, rfl⟩
abbrev main_call0_call0_v73 : Ref sig .tc := ⟨.hbm, 156, rfl⟩
abbrev main_call0_call0_v74 : Ref sig .tc := ⟨.hbm, 157, rfl⟩
abbrev main_call0_call0_c_18 : Ref sig .tc := ⟨.hbm, 158, rfl⟩
abbrev main_call0_call0_v75 : Ref sig .tc := ⟨.hbm, 159, rfl⟩
abbrev main_call0_call0_v76 : Ref sig .tc := ⟨.hbm, 160, rfl⟩
abbrev main_call0_call0_c_19 : Ref sig .tc := ⟨.hbm, 161, rfl⟩
abbrev main_call0_call0_v77 : Ref sig .tc := ⟨.hbm, 162, rfl⟩
abbrev main_call0_call0_v78 : Ref sig .tc := ⟨.hbm, 163, rfl⟩
abbrev main_call0_call0_v79 : Ref sig .tc := ⟨.hbm, 164, rfl⟩
abbrev main_call0_call0_v80 : Ref sig .tc := ⟨.hbm, 165, rfl⟩
abbrev main_call0_call0_v81 : Ref sig .tc := ⟨.hbm, 166, rfl⟩
abbrev main_call0_call0_c_20 : Ref sig .tc := ⟨.hbm, 167, rfl⟩
abbrev main_call0_call0_v82 : Ref sig .tc := ⟨.hbm, 168, rfl⟩
abbrev main_call0_call0_v83 : Ref sig .tc := ⟨.hbm, 169, rfl⟩
abbrev main_call0_call0_c_21 : Ref sig .tc := ⟨.hbm, 170, rfl⟩
abbrev main_call0_call0_v84 : Ref sig .tc := ⟨.hbm, 171, rfl⟩
abbrev main_call0_call0_v85 : Ref sig .tc := ⟨.hbm, 172, rfl⟩
abbrev main_call0_call0_v86 : Ref sig .tc := ⟨.hbm, 173, rfl⟩
abbrev main_call0_call0_v87 : Ref sig .tc := ⟨.hbm, 174, rfl⟩
abbrev main_call0_call0_v88 : Ref sig .tc := ⟨.hbm, 175, rfl⟩
abbrev main_call0_call0_c_22 : Ref sig .tc := ⟨.hbm, 176, rfl⟩
abbrev main_call0_call0_v89 : Ref sig .tc := ⟨.hbm, 177, rfl⟩
abbrev main_call0_call0_v90 : Ref sig .tc := ⟨.hbm, 178, rfl⟩
abbrev main_call0_call0_c_23 : Ref sig .tc := ⟨.hbm, 179, rfl⟩
abbrev main_call0_call0_v91 : Ref sig .tc := ⟨.hbm, 180, rfl⟩
abbrev main_call0_call0_v92 : Ref sig .tc := ⟨.hbm, 181, rfl⟩
abbrev main_call0_call0_v93 : Ref sig .tc := ⟨.hbm, 182, rfl⟩
abbrev main_call0_call0_v94 : Ref sig .tc := ⟨.hbm, 183, rfl⟩
abbrev main_call0_call0_v95 : Ref sig .tc := ⟨.hbm, 184, rfl⟩
abbrev main_call0_call0_c_24 : Ref sig .tc := ⟨.hbm, 185, rfl⟩
abbrev main_call0_call0_v96 : Ref sig .tc := ⟨.hbm, 186, rfl⟩
abbrev main_call0_call0_v97 : Ref sig .tc := ⟨.hbm, 187, rfl⟩
abbrev main_call0_call0_c_25 : Ref sig .tc := ⟨.hbm, 188, rfl⟩
abbrev main_call0_call0_v98 : Ref sig .tc := ⟨.hbm, 189, rfl⟩
abbrev main_call0_call0_v99 : Ref sig .tc := ⟨.hbm, 190, rfl⟩
abbrev main_call0_call0_v100 : Ref sig .tc := ⟨.hbm, 191, rfl⟩
abbrev main_call0_call0_v101 : Ref sig .tc := ⟨.hbm, 192, rfl⟩
abbrev main_call0_call0_v102 : Ref sig .tc := ⟨.hbm, 193, rfl⟩
abbrev main_call0_call0_v103 : Ref sig .tc := ⟨.hbm, 194, rfl⟩
abbrev main_call0_call0_v104 : Ref sig .tc := ⟨.hbm, 195, rfl⟩
abbrev main_call0_call0_v105 : Ref sig .tc := ⟨.hbm, 196, rfl⟩
abbrev main_call0_call0_c_26 : Ref sig .tc := ⟨.hbm, 197, rfl⟩
abbrev main_call0_call0_v106 : Ref sig .tc := ⟨.hbm, 198, rfl⟩
abbrev main_call0_call0_v107 : Ref sig .tc := ⟨.hbm, 199, rfl⟩
abbrev main_call0_call0_v108 : Ref sig .tc := ⟨.hbm, 200, rfl⟩
abbrev main_call0_call0_c_27 : Ref sig .tc := ⟨.hbm, 201, rfl⟩
abbrev main_call0_call0_v109 : Ref sig .tc := ⟨.hbm, 202, rfl⟩
abbrev main_call0_call0_v110 : Ref sig .tc := ⟨.hbm, 203, rfl⟩
abbrev main_call0_call0_c_28 : Ref sig .tc := ⟨.hbm, 204, rfl⟩
abbrev main_call0_call0_v111 : Ref sig .tc := ⟨.hbm, 205, rfl⟩
abbrev main_call0_call0_v112 : Ref sig .tc := ⟨.hbm, 206, rfl⟩
abbrev main_call0_call0_v113 : Ref sig .tc := ⟨.hbm, 207, rfl⟩
abbrev main_call0_call0_v114 : Ref sig .tc := ⟨.hbm, 208, rfl⟩
abbrev main_call0_call0_v115 : Ref sig .tc := ⟨.hbm, 209, rfl⟩
abbrev main_call0_call0_c_29 : Ref sig .tc := ⟨.hbm, 210, rfl⟩
abbrev main_call0_call0_v116 : Ref sig .tc := ⟨.hbm, 211, rfl⟩
abbrev main_call0_call0_v117 : Ref sig .tc := ⟨.hbm, 212, rfl⟩
abbrev main_call0_call0_c_30 : Ref sig .tc := ⟨.hbm, 213, rfl⟩
abbrev main_call0_call0_v118 : Ref sig .tc := ⟨.hbm, 214, rfl⟩
abbrev main_call0_call0_v119 : Ref sig .tc := ⟨.hbm, 215, rfl⟩
abbrev main_call0_call0_v120 : Ref sig .tc := ⟨.hbm, 216, rfl⟩
abbrev main_call0_call0_v121 : Ref sig .tc := ⟨.hbm, 217, rfl⟩
abbrev main_call0_call0_v122 : Ref sig .tc := ⟨.hbm, 218, rfl⟩
abbrev main_call0_call0_c_31 : Ref sig .tc := ⟨.hbm, 219, rfl⟩
abbrev main_call0_call0_v123 : Ref sig .tc := ⟨.hbm, 220, rfl⟩
abbrev main_call0_call0_v124 : Ref sig .tc := ⟨.hbm, 221, rfl⟩
abbrev main_call0_call0_c_32 : Ref sig .tc := ⟨.hbm, 222, rfl⟩
abbrev main_call0_call0_v125 : Ref sig .tc := ⟨.hbm, 223, rfl⟩
abbrev main_call0_call0_v126 : Ref sig .tc := ⟨.hbm, 224, rfl⟩
abbrev main_call0_call0_v127 : Ref sig .tc := ⟨.hbm, 225, rfl⟩
abbrev main_call0_call0_v128 : Ref sig .tc := ⟨.hbm, 226, rfl⟩
abbrev main_call0_call0_v129 : Ref sig .tc := ⟨.hbm, 227, rfl⟩
abbrev main_call0_call0_c_33 : Ref sig .tc := ⟨.hbm, 228, rfl⟩
abbrev main_call0_call0_v130 : Ref sig .tc := ⟨.hbm, 229, rfl⟩
abbrev main_call0_call0_v131 : Ref sig .tc := ⟨.hbm, 230, rfl⟩
abbrev main_call0_call0_c_34 : Ref sig .tc := ⟨.hbm, 231, rfl⟩
abbrev main_call0_call0_v132 : Ref sig .tc := ⟨.hbm, 232, rfl⟩
abbrev main_call0_call0_v133 : Ref sig .tc := ⟨.hbm, 233, rfl⟩
abbrev main_call0_call0_v134 : Ref sig .tc := ⟨.hbm, 234, rfl⟩
abbrev main_call0_call0_v135 : Ref sig .tc := ⟨.hbm, 235, rfl⟩
abbrev main_call0_call0_v136 : Ref sig .tc := ⟨.hbm, 236, rfl⟩
abbrev main_call0_call0_v137 : Ref sig .tc := ⟨.hbm, 237, rfl⟩
abbrev main_call0_call0_v138 : Ref sig .tc := ⟨.hbm, 238, rfl⟩
abbrev main_call0_call0_v139 : Ref sig .tc := ⟨.hbm, 239, rfl⟩
abbrev main_call0_call0_c_35 : Ref sig .tc := ⟨.hbm, 240, rfl⟩
abbrev main_call0_call0_v140 : Ref sig .tc := ⟨.hbm, 241, rfl⟩
abbrev main_call0_call0_v141 : Ref sig .tc := ⟨.hbm, 242, rfl⟩
abbrev main_call0_call0_v142 : Ref sig .tc := ⟨.hbm, 243, rfl⟩
abbrev main_call0_call0_c_36 : Ref sig .tc := ⟨.hbm, 244, rfl⟩
abbrev main_call0_call0_v143 : Ref sig .tc := ⟨.hbm, 245, rfl⟩
abbrev main_call0_call0_v144 : Ref sig .tc := ⟨.hbm, 246, rfl⟩
abbrev main_call0_call0_c_37 : Ref sig .tc := ⟨.hbm, 247, rfl⟩
abbrev main_call0_call0_v145 : Ref sig .tc := ⟨.hbm, 248, rfl⟩
abbrev main_call0_call0_v146 : Ref sig .tc := ⟨.hbm, 249, rfl⟩
abbrev main_call0_call0_v147 : Ref sig .tc := ⟨.hbm, 250, rfl⟩
abbrev main_call0_call0_v148 : Ref sig .tc := ⟨.hbm, 251, rfl⟩
abbrev main_call0_call0_v149 : Ref sig .tc := ⟨.hbm, 252, rfl⟩
abbrev main_call0_call0_c_38 : Ref sig .tc := ⟨.hbm, 253, rfl⟩
abbrev main_call0_call0_v150 : Ref sig .tc := ⟨.hbm, 254, rfl⟩
abbrev main_call0_call0_v151 : Ref sig .tc := ⟨.hbm, 255, rfl⟩
abbrev main_call0_call0_c_39 : Ref sig .tc := ⟨.hbm, 256, rfl⟩
abbrev main_call0_call0_v152 : Ref sig .tc := ⟨.hbm, 257, rfl⟩
abbrev main_call0_call0_v153 : Ref sig .tc := ⟨.hbm, 258, rfl⟩
abbrev main_call0_call0_v154 : Ref sig .tc := ⟨.hbm, 259, rfl⟩
abbrev main_call0_call0_v155 : Ref sig .tc := ⟨.hbm, 260, rfl⟩
abbrev main_call0_call0_v156 : Ref sig .tc := ⟨.hbm, 261, rfl⟩
abbrev main_call0_call0_c_40 : Ref sig .tc := ⟨.hbm, 262, rfl⟩
abbrev main_call0_call0_v157 : Ref sig .tc := ⟨.hbm, 263, rfl⟩
abbrev main_call0_call0_v158 : Ref sig .tc := ⟨.hbm, 264, rfl⟩
abbrev main_call0_call0_c_41 : Ref sig .tc := ⟨.hbm, 265, rfl⟩
abbrev main_call0_call0_v159 : Ref sig .tc := ⟨.hbm, 266, rfl⟩
abbrev main_call0_call0_v160 : Ref sig .tc := ⟨.hbm, 267, rfl⟩
abbrev main_call0_call0_v161 : Ref sig .tc := ⟨.hbm, 268, rfl⟩
abbrev main_call0_call0_v162 : Ref sig .tc := ⟨.hbm, 269, rfl⟩
abbrev main_call0_call0_v163 : Ref sig .tc := ⟨.hbm, 270, rfl⟩
abbrev main_call0_call0_c_42 : Ref sig .tc := ⟨.hbm, 271, rfl⟩
abbrev main_call0_call0_v164 : Ref sig .tc := ⟨.hbm, 272, rfl⟩
abbrev main_call0_call0_v165 : Ref sig .tc := ⟨.hbm, 273, rfl⟩
abbrev main_call0_call0_c_43 : Ref sig .tc := ⟨.hbm, 274, rfl⟩
abbrev main_call0_call0_v166 : Ref sig .tc := ⟨.hbm, 275, rfl⟩
abbrev main_call0_call0_v167 : Ref sig .tc := ⟨.hbm, 276, rfl⟩
abbrev main_call0_call0_v168 : Ref sig .tc := ⟨.hbm, 277, rfl⟩
abbrev main_call0_call0_v169 : Ref sig .tc := ⟨.hbm, 278, rfl⟩
abbrev main_call0_call0_v170 : Ref sig .tc := ⟨.hbm, 279, rfl⟩
abbrev main_call0_v19_0 : Ref sig .tc := ⟨.hbm, 280, rfl⟩
abbrev main_call0_call0_v172 : Ref sig .tc := ⟨.hbm, 281, rfl⟩
abbrev main_call0_call0_v173 : Ref sig .tc := ⟨.hbm, 282, rfl⟩
abbrev main_call0_call0_c_44 : Ref sig .tc := ⟨.hbm, 283, rfl⟩
abbrev main_call0_call0_v174 : Ref sig .tc := ⟨.hbm, 284, rfl⟩
abbrev main_call0_v19_1 : Ref sig .tc := ⟨.hbm, 285, rfl⟩
abbrev main_call0_v20 : Ref sig .tc := ⟨.hbm, 286, rfl⟩
abbrev main_call0_c_2 : Ref sig .tc := ⟨.hbm, 287, rfl⟩
abbrev main_call0_v21 : Ref sig .tc := ⟨.hbm, 288, rfl⟩
abbrev main_call0_v22 : Ref sig .tc := ⟨.hbm, 289, rfl⟩
abbrev main_call0_c_3 : Ref sig .tc := ⟨.hbm, 290, rfl⟩
abbrev main_call0_v23 : Ref sig .tc := ⟨.hbm, 291, rfl⟩
abbrev main_call0_v24 : Ref sig .tc := ⟨.hbm, 292, rfl⟩
abbrev main_call0_v25 : Ref sig .tc := ⟨.hbm, 293, rfl⟩
abbrev main_call0_cst : Ref sig .tc := ⟨.hbm, 294, rfl⟩
abbrev main_call0_v26 : Ref sig .tc := ⟨.hbm, 295, rfl⟩
abbrev main_call0_v27 : Ref sig .tc := ⟨.hbm, 296, rfl⟩
abbrev main_call0_v28 : Ref sig .tc := ⟨.hbm, 297, rfl⟩
abbrev main_call0_v29 : Ref sig .tc := ⟨.hbm, 298, rfl⟩
abbrev main_call0_v30 : Ref sig .tc := ⟨.hbm, 299, rfl⟩
abbrev main_call0_v31 : Ref sig .tc := ⟨.hbm, 300, rfl⟩
abbrev main_call0_v32 : Ref sig .tc := ⟨.hbm, 301, rfl⟩
abbrev main_call0_v33 : Ref sig .tc := ⟨.hbm, 302, rfl⟩
abbrev main_v29 : Ref sig .tc := ⟨.hbm, 303, rfl⟩
abbrev main_cst_9 : Ref sig .tc := ⟨.hbm, 304, rfl⟩
abbrev main_v30 : Ref sig .tc := ⟨.hbm, 305, rfl⟩
abbrev main_v31 : Ref sig .tc := ⟨.hbm, 306, rfl⟩
abbrev main_v32 : Ref sig .tc := ⟨.hbm, 307, rfl⟩
abbrev main_v33 : Ref sig .tc := ⟨.hbm, 308, rfl⟩
abbrev main_cst_10 : Ref sig .tc := ⟨.hbm, 309, rfl⟩
abbrev main_v34 : Ref sig .tc := ⟨.hbm, 310, rfl⟩
abbrev main_v35 : Ref sig .tc := ⟨.hbm, 311, rfl⟩
abbrev main_v36 : Ref sig .tc := ⟨.hbm, 312, rfl⟩
abbrev main_v37 : Ref sig .tc := ⟨.hbm, 313, rfl⟩
abbrev main_v38 : Ref sig .tc := ⟨.hbm, 314, rfl⟩
abbrev main_cst_11 : Ref sig .tc := ⟨.hbm, 315, rfl⟩
abbrev main_v39 : Ref sig .tc := ⟨.hbm, 316, rfl⟩
abbrev main_v40 : Ref sig .tc := ⟨.hbm, 317, rfl⟩
abbrev main_cst_12 : Ref sig .tc := ⟨.hbm, 318, rfl⟩
abbrev main_v41 : Ref sig .tc := ⟨.hbm, 319, rfl⟩
abbrev main_cst_13 : Ref sig .tc := ⟨.hbm, 320, rfl⟩
abbrev main_v42 : Ref sig .tc := ⟨.hbm, 321, rfl⟩
abbrev main_v43 : Ref sig .tc := ⟨.hbm, 322, rfl⟩
abbrev main_v44 : Ref sig .tc := ⟨.hbm, 323, rfl⟩
abbrev main_v45 : Ref sig .tc := ⟨.hbm, 324, rfl⟩
abbrev main_v46 : Ref sig .tc := ⟨.hbm, 325, rfl⟩
abbrev main_v47 : Ref sig .tc := ⟨.hbm, 326, rfl⟩
abbrev main_cst_14 : Ref sig .tc := ⟨.hbm, 327, rfl⟩
abbrev main_v48 : Ref sig .tc := ⟨.hbm, 328, rfl⟩
abbrev main_v49 : Ref sig .tc := ⟨.hbm, 329, rfl⟩
abbrev main_v50 : Ref sig .tc := ⟨.hbm, 330, rfl⟩
abbrev main_v51 : Ref sig .tc := ⟨.hbm, 331, rfl⟩
abbrev main_v52 : Ref sig .tc := ⟨.hbm, 332, rfl⟩

abbrev nD : Nat := 1
abbrev τ : Topo := Topo.v7x

variable {F : FTy → Type} [FloatOps F]
-- ==== Proof.Rows.lean ====
/- What one row of the two results is, as a function of one row of `z`, the whole codebook and one row of noise, on the
   extended reals; and that the kernel's tile computes it row by row. -/
module

public import proofs.«01_k».proof.Proof.Gen.KernelIdeal.Frame
public import Idealize.ShloMosaic.Lib.Pointwise
public import Idealize.ShloMosaic.PureOps.Ideal.Laws

@[expose] public section

noncomputable section

namespace Cert.Rows

open Idealize.ShloMosaic

/-- A row divided by its length, the length taken no smaller than the float nearest 1e-12. -/
def unitRow (x : Fin 256 → EReal) (k : Fin 256) : EReal :=
  Ideal.div (x k) (max (Ideal.sqrt (∑ l, x l * x l)) (Ideal.ofBits .f32 0x2B8CBCCC#32))

/-- One row of warmed scores: the concentration times the product with each codebook row, plus the noise, doubled. -/
def warmRow (z : Fin 256 → EReal) (e : Fin 1024 → Fin 256 → EReal) (g : Fin 1024 → EReal) (j : Fin 1024) : EReal :=
  ((Ideal.exp (Ideal.ofBits .f32 0xC03FBA14#32) + 1) * (∑ k, unitRow z k * unitRow (e j) k) + g j)
    * Ideal.ofBits .f32 0x40000000#32

/-- A row's softmax, the greatest entry subtracted first. -/
def softRow (s : Fin 1024 → EReal) (j : Fin 1024) : EReal :=
  Ideal.div (Ideal.exp (s j - Finset.univ.fold max (Ideal.ofBits .f32 0xFF800000#32) s))
    (∑ l, Ideal.exp (s l - Finset.univ.fold max (Ideal.ofBits .f32 0xFF800000#32) s))

/-- One row of tokens. -/
def tokenRow (z : Fin 256 → EReal) (e : Fin 1024 → Fin 256 → EReal) (g : Fin 1024 → EReal) : Fin 1024 → EReal :=
  softRow (warmRow z e g)

/-- One row of the second result: the normalised codebook rows weighted by the tokens. -/
def mixedRow (z : Fin 256 → EReal) (e : Fin 1024 → Fin 256 → EReal) (g : Fin 1024 → EReal) (k : Fin 256) : EReal :=
  ∑ j, tokenRow z e g j * unitRow (e j) k

/-- Row `r` of a two-dimensional array. -/
def row {n w : Nat} (x : FVec Ideal (⟨2, ![n, w]⟩ : Shape) .f32) (r : Fin n) (k : Fin w) : EReal := x (ix2 r k)

/-- The first result array: at each row, the tokens of that row of `z` and of the noise. -/
def tokensOf (z : FVec Ideal (⟨2, ![16384, 256]⟩ : Shape) .f32) (e : FVec Ideal (⟨2, ![1024, 256]⟩ : Shape) .f32)
    (g : FVec Ideal (⟨2, ![16384, 1024]⟩ : Shape) .f32) : FVec Ideal (⟨2, ![16384, 1024]⟩ : Shape) .f32 :=
  fun i => tokenRow (row z (i 0)) (row e) (row g (i 0)) (i 1)

/-- The second result array: at each row, the codebook's mixture by that row's tokens. -/
def mixedOf (z : FVec Ideal (⟨2, ![16384, 256]⟩ : Shape) .f32) (e : FVec Ideal (⟨2, ![1024, 256]⟩ : Shape) .f32)
    (g : FVec Ideal (⟨2, ![16384, 1024]⟩ : Shape) .f32) : FVec Ideal (⟨2, ![16384, 256]⟩ : Shape) .f32 :=
  fun i => mixedRow (row z (i 0)) (row e) (row g (i 0)) (i 1)

/-- A maximum that starts from `b` is no smaller than `b`. -/
theorem max_fold {ι : Type} (s : Finset ι) (b : EReal) (f : ι → EReal) : max b (s.fold max b f) = s.fold max b f :=
  max_eq_right ((Finset.le_fold_max _).mpr (.inl le_rfl))

/-- The greater of two arrays at an index. -/
theorem maximumf_at {s : Shape} (a b : FVec Ideal s .f32) (i : s.Idx) : maximumf a b i = max (a i) (b i) := rfl

/-- The greatest entry of row `i`, as the host reduces it, at any two extents. -/
theorem rowFold_apply {n w : Nat} (x : FVec Ideal (⟨2, ![n, w]⟩ : Shape) .f32) {u : Shape} (c : FVec Ideal u .f32)
    (h : (⟨2, ![n, w]⟩ : Shape).ReducesTo [1] ⟨1, ![n]⟩) (hu : 0 < u.numel) (i : Fin n) :
    Host.reduce FloatOps.maximumf x c h hu (ix1 i) = Finset.univ.fold max (c (Shape.Idx.first hu)) (row x i) := by
  have h' : (⟨2, ![n, w]⟩ : Shape).Reduces [1] ⟨1, ![n]⟩ := ⟨h.1, Nat.one_pos, h.2⟩
  rw [Host.reduce_eq_fold_single (a := 1) _ x c h h' hu]
  refine Finset.fold_congr fun k _ => ?_
  show x (h'.lift (ix1 i) k) = x (ix2 i k)
  congr 1
  funext a
  fin_cases a <;> rfl

section kernel

open Cert.KernelIdeal Cert.KernelIdeal.Gen

set_option maxRecDepth 16384

/-- The exponential of one number. -/
theorem scalar_exp (x : Ideal .f32) : Scalar.exp x = Ideal.exp x := rfl

/-- The kernel's normalised codebook. -/
theorem pay1_apply (e : FVec Ideal S1024x256 .f32) (j : Fin 1024) (k : Fin 256) :
    k0_pay1 (F := Ideal) e (ix2 j k) = unitRow (row e j) k := by
  pointwise [k0_pay1, unitRow, row]

/-- The kernel's tokens at one tile, row by row. -/
theorem pay2_apply (e z : FVec Ideal S1024x256 .f32) (g : FVec Ideal S1024x1024 .f32) (r j : Fin 1024) :
    k0_pay2 (F := Ideal) e z g (ix2 r j) = tokenRow (row z r) (row e) (row g r) j := by
  pointwise [k0_pay2, scalar_exp, pay1_apply, tokenRow, softRow, warmRow, unitRow, row]

/-- The kernel's second result at one tile, row by row. -/
theorem pay3_apply (e z : FVec Ideal S1024x256 .f32) (g : FVec Ideal S1024x1024 .f32) (r : Fin 1024) (k : Fin 256) :
    k0_pay3 (F := Ideal) e z g (ix2 r k) = mixedRow (row z r) (row e) (row g r) k := by
  pointwise [k0_pay3, mixedRow, pay1_apply, pay2_apply]

end kernel

end Cert.Rows

end
-- ==== Proof.Tile.lean ====
/- The kernel's two result arrays after its run: grid point `t` computes rows `1024·t` to `1024·t + 1023`, and the
   sixteen points' rows are all of them. -/
module

public import proofs.«01_k».proof.Proof.Rows
public import proofs.«01_k».proof.Proof.Gen.KernelIdeal.Value

@[expose] public section

noncomputable section

namespace Cert.KernelIdeal.Tile

open Idealize.ShloMosaic Idealize.ShloMosaic.TcCoe Idealize.SL.Sem
open Idealize.ShloMosaic.Pipeline (Dat)
open Cert.KernelIdeal Cert.KernelIdeal.Gen Cert.Rows

variable (m : (ℓ : Loc nD τ sig) → Buf (Elt Ideal) ℓ) (ρ : Dev nD → PrngReg)

/-- Both offsets of a load or store of a whole tile are zero. -/
theorem hz : (![0, 0] : Fin 2 → Nat) = fun _ => 0 := funext fun a => by fin_cases a <;> rfl

/-- Row `r` of point `t`'s tile, as a row of the whole array. -/
def at' (t : Fin cfg0.N) (r : Fin 1024) : Fin 16384 :=
  ⟨1024 * t.val + r.val, by have := t.isLt; have hN : cfg0.N = 16 := N_0; have := r.isLt; omega⟩

/-- Where the five windows' blocks lie: those of `z`, of the noise and of the two results at row tile `t`, the
    codebook's at the origin. -/
theorem index_eq : ∀ t : Fin cfg0.N,
    (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0)
      ∧ (win0_4.index t 0 = t.val ∧ win0_4.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0)
      ∧ (win0_4.index t 0 = t.val ∧ win0_4.index t 1 = 0))

/-- Row `r` of window 0's block at point `t`, of any array, is the array's row `1024·t + r`. -/
theorem row_blk0 (x : FVec Ideal S16384x256 .f32) (t : Fin cfg0.N) (r : Fin 1024) :
    row (((cfg0.win 0).blk t).view.read (Elt Ideal) x : FVec Ideal S1024x256 .f32) r = row x (at' t r) := by
  funext k
  show x _ = x _
  congr 1
  funext a
  apply Fin.ext
  have h := (index_eq t).1
  match a with
  | ⟨0, _⟩ => show win0_0.index t 0 * 1024 + 1 * r.val = 1024 * t.val + r.val; rw [h.1]; omega
  | ⟨1, _⟩ => show win0_0.index t 1 * 256 + 1 * k.val = k.val; rw [h.2]; omega

/-- Row `j` of window 1's block, of any array, is the array's row `j`. -/
theorem row_blk1 (x : FVec Ideal S1024x256 .f32) (t : Fin cfg0.N) :
    row (((cfg0.win 1).blk t).view.read (Elt Ideal) x : FVec Ideal S1024x256 .f32) = row x := by
  funext j k
  show x _ = x _
  congr 1
  funext a
  apply Fin.ext
  have h := (index_eq t).2.1
  match a with
  | ⟨0, _⟩ => show win0_1.index t 0 * 1024 + 1 * j.val = j.val; rw [h.1]; omega
  | ⟨1, _⟩ => show win0_1.index t 1 * 256 + 1 * k.val = k.val; rw [h.2]; omega

/-- Row `r` of window 2's block at point `t`, of any array, is the array's row `1024·t + r`. -/
theorem row_blk2 (x : FVec Ideal S16384x1024 .f32) (t : Fin cfg0.N) (r : Fin 1024) :
    row (((cfg0.win 2).blk t).view.read (Elt Ideal) x : FVec Ideal S1024x1024 .f32) r = row x (at' t r) := by
  funext k
  show x _ = x _
  congr 1
  funext a
  apply Fin.ext
  have h := (index_eq t).2.2.1
  match a with
  | ⟨0, _⟩ => show win0_2.index t 0 * 1024 + 1 * r.val = 1024 * t.val + r.val; rw [h.1]; omega
  | ⟨1, _⟩ => show win0_2.index t 1 * 1024 + 1 * k.val = k.val; rw [h.2]; omega

/-- The first result array of device `c`'s own inputs and noise. -/
abbrev tokensAt (c : Dev nD) : FVec Ideal S16384x1024 .f32 :=
  tokensOf (V m c main_arg0) (V m c main_arg1) (V m c main_call0_v15)

/-- The second. -/
abbrev mixedAt (c : Dev nD) : FVec Ideal S16384x256 .f32 :=
  mixedOf (V m c main_arg0) (V m c main_arg1) (V m c main_call0_v15)

/-- Window 3's block at point `t`, of any array, read at row `r`: the array's row `1024·t + r`. -/
theorem read_blk3 (x : FVec Ideal S16384x1024 .f32) (t : Fin cfg0.N) (r k : Fin 1024) :
    (((cfg0.win 3).blk t).view.read (Elt Ideal) x : FVec Ideal S1024x1024 .f32) (ix2 r k) = x (ix2 (at' t r) k) := by
  show x _ = x _
  congr 1
  funext a
  apply Fin.ext
  have h := (index_eq t).2.2.2.1
  match a with
  | ⟨0, _⟩ => show win0_3.index t 0 * 1024 + 1 * r.val = 1024 * t.val + r.val; rw [h.1]; omega
  | ⟨1, _⟩ => show win0_3.index t 1 * 1024 + 1 * k.val = k.val; rw [h.2]; omega

/-- Window 4's likewise. -/
theorem read_blk4 (x : FVec Ideal S16384x256 .f32) (t : Fin cfg0.N) (r : Fin 1024) (k : Fin 256) :
    (((cfg0.win 4).blk t).view.read (Elt Ideal) x : FVec Ideal S1024x256 .f32) (ix2 r k) = x (ix2 (at' t r) k) := by
  show x _ = x _
  congr 1
  funext a
  apply Fin.ext
  have h := (index_eq t).2.2.2.2
  match a with
  | ⟨0, _⟩ => show win0_4.index t 0 * 1024 + 1 * r.val = 1024 * t.val + r.val; rw [h.1]; omega
  | ⟨1, _⟩ => show win0_4.index t 1 * 256 + 1 * k.val = k.val; rw [h.2]; omega

/-- What the body computes of the blocks at point `t` of any three arrays is block `t` of `tokensOf` of the arrays. -/
theorem pay2_blk (z : FVec Ideal S16384x256 .f32) (e : FVec Ideal S1024x256 .f32) (g : FVec Ideal S16384x1024 .f32)
    (t : Fin cfg0.N) :
    k0_pay2 (F := Ideal) (((cfg0.win 1).blk t).view.read (Elt Ideal) e) (((cfg0.win 0).blk t).view.read (Elt Ideal) z)
        (((cfg0.win 2).blk t).view.read (Elt Ideal) g)
      = ((cfg0.win 3).blk t).view.read (Elt Ideal) (tokensOf z e g) := by
  funext j
  obtain ⟨r, k, rfl⟩ : ∃ r k, j = ix2 r k := ⟨j 0, j 1, (ix2_eta j).symm⟩
  rw [read_blk3]
  refine (pay2_apply _ _ _ r k).trans ?_
  rw [row_blk0, row_blk1, row_blk2]
  rfl

/-- And block `t` of `mixedOf` of them. -/
theorem pay3_blk (z : FVec Ideal S16384x256 .f32) (e : FVec Ideal S1024x256 .f32) (g : FVec Ideal S16384x1024 .f32)
    (t : Fin cfg0.N) :
    k0_pay3 (F := Ideal) (((cfg0.win 1).blk t).view.read (Elt Ideal) e) (((cfg0.win 0).blk t).view.read (Elt Ideal) z)
        (((cfg0.win 2).blk t).view.read (Elt Ideal) g)
      = ((cfg0.win 4).blk t).view.read (Elt Ideal) (mixedOf z e g) := by
  funext j
  obtain ⟨r, k, rfl⟩ : ∃ r k, j = ix2 r k := ⟨j 0, j 1, (ix2_eta j).symm⟩
  rw [read_blk4]
  refine (pay3_apply _ _ _ r k).trans ?_
  rw [row_blk0, row_blk1, row_blk2]
  rfl

/-- Point `t` writes its rows of the first array. -/
theorem flushed3_eq (c : Dev nD) (t : Fin cfg0.N) :
    (dats m 0 c).flushed 3 t = ((cfg0.win 3).blk t).view.read (Elt Ideal) (tokensAt m c) := by
  rw [Value.flushed3]
  unfold out0_3
  rw [View.canon_unit_zero hz, View.ld_unit_zero (S := S1024x256) hz, View.ld_unit_zero (S := S1024x256) hz,
    View.ld_unit_zero (S := S1024x1024) hz]
  exact pay2_blk (V m c main_arg0) (V m c main_arg1) (V m c main_call0_v15) t

/-- Point `t` writes its rows of the second array. -/
theorem flushed4_eq (c : Dev nD) (t : Fin cfg0.N) :
    (dats m 0 c).flushed 4 t = ((cfg0.win 4).blk t).view.read (Elt Ideal) (mixedAt m c) := by
  rw [Value.flushed4]
  unfold out0_4
  rw [View.canon_unit_zero hz, View.ld_unit_zero (S := S1024x256) hz, View.ld_unit_zero (S := S1024x256) hz,
    View.ld_unit_zero (S := S1024x1024) hz]
  exact pay3_blk (V m c main_arg0) (V m c main_arg1) (V m c main_call0_v15) t

/-- The point whose rows hold row `i`. -/
def tileOf (i : Fin 16384) : Fin cfg0.N := ⟨i.val / 1024, by have hN : cfg0.N = 16 := N_0; have := i.isLt; omega⟩

/-- Every index of the first array lies in the block of its row's point. -/
theorem cover3 (i : S16384x1024.Idx) : i ∈ ((cfg0.win 3).blk (tileOf (i 0))).view.set := by
  show i ∈ ((View.whole main_v0_0).slice (win0_3.rect (tileOf (i 0)))).set
  rw [View.set_slice_whole, Rect.mem_set_unit]
  have h := (index_eq (tileOf (i 0))).2.2.2.1
  have h1 : (i 1 : Nat) < 1024 := (i 1).isLt
  have ht : (tileOf (i 0)).val = (i 0 : Nat) / 1024 := rfl
  intro a
  match a with
  | ⟨0, _⟩ =>
    show win0_3.index (tileOf (i 0)) 0 * 1024 ≤ (i 0 : Nat) ∧ (i 0 : Nat) < win0_3.index (tileOf (i 0)) 0 * 1024 + 1024
    rw [h.1, ht]; omega
  | ⟨1, _⟩ =>
    show win0_3.index (tileOf (i 0)) 1 * 1024 ≤ (i 1 : Nat) ∧ (i 1 : Nat) < win0_3.index (tileOf (i 0)) 1 * 1024 + 1024
    rw [h.2]; omega

/-- Every index of the second array likewise. -/
theorem cover4 (i : S16384x256.Idx) : i ∈ ((cfg0.win 4).blk (tileOf (i 0))).view.set := by
  show i ∈ ((View.whole main_v0_1).slice (win0_4.rect (tileOf (i 0)))).set
  rw [View.set_slice_whole, Rect.mem_set_unit]
  have h := (index_eq (tileOf (i 0))).2.2.2.2
  have h1 : (i 1 : Nat) < 256 := (i 1).isLt
  have ht : (tileOf (i 0)).val = (i 0 : Nat) / 1024 := rfl
  intro a
  match a with
  | ⟨0, _⟩ =>
    show win0_4.index (tileOf (i 0)) 0 * 1024 ≤ (i 0 : Nat) ∧ (i 0 : Nat) < win0_4.index (tileOf (i 0)) 0 * 1024 + 1024
    rw [h.1, ht]; omega
  | ⟨1, _⟩ =>
    show win0_4.index (tileOf (i 0)) 1 * 256 ≤ (i 1 : Nat) ∧ (i 1 : Nat) < win0_4.index (tileOf (i 0)) 1 * 256 + 256
    rw [h.2]; omega

/-- Every run of the kernel ends with the two arrays in its results and its arguments unchanged. -/
theorem run : θ_run defs (onTc (τ := τ) (main (F := Ideal))) ⟨m, fun _ => 0, ρ⟩ fun r => ∀ c : Dev nD,
      r.2.mem ((c : Thread nD τ).loc main_v0_0) = tokensAt m c
      ∧ r.2.mem ((c : Thread nD τ).loc main_v0_1) = mixedAt m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 3 (tokensAt m c) (fun t _ => flushed3_eq m c t)
          fun i => ⟨tileOf (i 0), flush0_3 _, cover3 i⟩),
        (h c).2.1.trans ((dats m 0 c).arrAt_eq_of_cover 4 (mixedAt m c) (fun t _ => flushed4_eq m c t)
          fun i => ⟨tileOf (i 0), flush0_4 _, cover4 i⟩),
        (h c).2.2.1, (h c).2.2.2⟩)
    (Value.run_blocks m ρ)

end Cert.KernelIdeal.Tile

end
-- ==== Proof.Lockstep.lean ====
/- Two programs over different buffers that perform the same host operations on corresponding operands compute the
   same array.  Here that is used for the noise: the kernel and the reference both draw it with a long line of integer
   operations, and nothing about what that line computes is needed, only that the two lines match operation by
   operation. -/
module

public import Idealize.ShloMosaic.Lib.StableHlo.Run

@[expose] public section

noncomputable section

namespace Cert.Lockstep

open Idealize.ShloMosaic Idealize.SL.Sem Idealize.ShloMosaic.StableHlo

variable {nD : ℕ} {τ : Topo} {Val : EltTy → Type} {Λ : Labels}

/-! ## Straight lines -/

section line

variable {sig : RefSig}

/-- `p`, followed by the operations `rest`, performs the operations `ops` in order and nothing else. -/
def Line (p : Prog (TpuEff nD τ sig Val Λ .tc) PUnit) (rest ops : List (HloOp τ sig Val)) : Prop :=
  (p >>= fun _ => seq rest) = seq ops

/-- One operation is a line of one. -/
theorem Line.one (op : HloOp τ sig Val) (rest : List (HloOp τ sig Val)) :
    Line (nD := nD) (Λ := Λ) (hlo rfl op fun _ => .ret ⟨⟩) rest (op :: rest) := rfl

/-- Returning performs nothing. -/
theorem Line.done (rest : List (HloOp τ sig Val)) : Line (nD := nD) (Λ := Λ) (pure ⟨⟩) rest rest := rfl

/-- Two lines, one after the other. -/
theorem Line.bind {p q : Prog (TpuEff nD τ sig Val Λ .tc) PUnit} {rest mid ops : List (HloOp τ sig Val)}
    (hp : Line p mid ops) (hq : Line q rest mid) : Line (p >>= fun _ => q) rest ops := by
  unfold Line at *
  rw [bind_assoc, ← hp]
  exact congrArg _ (funext fun _ => hq)

/-- A line followed by nothing is its operations. -/
theorem Line.eq_seq {p : Prog (TpuEff nD τ sig Val Λ .tc) PUnit} {ops : List (HloOp τ sig Val)} (h : Line p [] ops) :
    p = seq ops := by
  rw [← h]
  exact (bind_pure p).symm

/-- Operations `u`, followed by `rest`. -/
theorem Line.of_eq_seq {p : Prog (TpuEff nD τ sig Val Λ .tc) PUnit} {u : List (HloOp τ sig Val)} (h : p = seq u)
    (rest : List (HloOp τ sig Val)) : Line p rest (u ++ rest) := by
  unfold Line
  rw [h, seq_append]

end line

/-! ## Corresponding operations -/

/-- The array that the buffer `x` holds. -/
def val {sig : RefSig} {T : BufTy} (x : TRef sig T) (V : Valuation τ sig Val) : T.Contents Val :=
  x.ofBuf (V (Proc.devRef .tc x.ref))

/-- A buffer's number. -/
abbrev num {sig : RefSig} {T : BufTy} (x : TRef sig T) : ℕ := x.ref.idx.val

section result

variable {sig : RefSig} {T Ta Tb : BufTy}

/-- Buffers numbered differently are different. -/
theorem ref_ne {x : TRef sig T} {y : TRef sig Ta} (h : num x < num y) : x.ref ≠ y.ref := fun e => by
  have : num x = num y := by unfold num; rw [e]
  omega

/-- A constant's result. -/
theorem val_nullary (y : TRef sig T) (v : T.Contents Val) (V : Valuation τ sig Val) :
    val y ((TRef.nullary y v).result V) = v := by
  unfold val; rw [nullary_result]; exact y.ofBuf_toBuf v

/-- A one-operand operation's result. -/
theorem val_unary (x : TRef sig Ta) (y : TRef sig T) (f : Ta.Contents Val → T.Contents Val) (V : Valuation τ sig Val) :
    val y ((TRef.unary x y f).result V) = f (val x V) := by
  unfold val; rw [unary_result]; exact y.ofBuf_toBuf _

/-- A two-operand operation's result. -/
theorem val_binary (a : TRef sig Ta) (b : TRef sig Tb) (y : TRef sig T)
    (f : Ta.Contents Val → Tb.Contents Val → T.Contents Val) (V : Valuation τ sig Val) :
    val y ((TRef.binary a b y f).result V) = f (val a V) (val b V) := by
  unfold val; rw [binary_result]; exact y.ofBuf_toBuf _

/-- A reshape's result. -/
theorem val_reshape (x : TRef sig Ta) (y : TRef sig T) (he : Ta.elt = T.elt) (hn : Ta.shape.ShapeCasts T.shape)
    (V : Valuation τ sig Val) :
    val y ((TRef.reshape x y he hn).result V) = fun i => he ▸ shapeCast T.shape (val x V) hn i := by
  obtain ⟨r, rfl, h₁, h₂⟩ := x
  obtain ⟨r', rfl, h₁', h₂'⟩ := y
  unfold val; rw [reshape_result]; rfl

end result

section lock

variable {sig₁ sig₂ : RefSig}

/-- A buffer of the first program and one of the second, of one type. -/
abbrev Pair (sig₁ sig₂ : RefSig) : Type := (T : BufTy) × (TRef sig₁ T × TRef sig₂ T)

/-- The operations `ks` and `rs` match one by one: the same operation on corresponding operands, where the pairs
    in `L` and the results of earlier operations correspond.  Every result is a buffer numbered at least `n₁`, in the
    second program `n₂`, and above the results before it.  At the end `goal` is a corresponding pair. -/
inductive Lock (goal : Pair sig₁ sig₂) :
    List (Pair sig₁ sig₂) → ℕ → ℕ → List (HloOp τ sig₁ Val) → List (HloOp τ sig₂ Val) → Prop
  | done {L n₁ n₂} (h : goal ∈ L) : Lock goal L n₁ n₂ [] []
  | nullary {L n₁ n₂ ks rs T} (y₁ : TRef sig₁ T) (y₂ : TRef sig₂ T) (v : T.Contents Val)
      (h₁ : n₁ ≤ num y₁) (h₂ : n₂ ≤ num y₂) (h : Lock goal (⟨T, y₁, y₂⟩ :: L) (num y₁ + 1) (num y₂ + 1) ks rs) :
      Lock goal L n₁ n₂ (TRef.nullary y₁ v :: ks) (TRef.nullary y₂ v :: rs)
  | unary {L n₁ n₂ ks rs T Ta} (x₁ : TRef sig₁ Ta) (y₁ : TRef sig₁ T) (x₂ : TRef sig₂ Ta) (y₂ : TRef sig₂ T)
      (f : Ta.Contents Val → T.Contents Val) (hx : (⟨Ta, x₁, x₂⟩ : Pair sig₁ sig₂) ∈ L)
      (h₁ : n₁ ≤ num y₁) (h₂ : n₂ ≤ num y₂) (h : Lock goal (⟨T, y₁, y₂⟩ :: L) (num y₁ + 1) (num y₂ + 1) ks rs) :
      Lock goal L n₁ n₂ (TRef.unary x₁ y₁ f :: ks) (TRef.unary x₂ y₂ f :: rs)
  | binary {L n₁ n₂ ks rs T Ta Tb} (a₁ : TRef sig₁ Ta) (b₁ : TRef sig₁ Tb) (y₁ : TRef sig₁ T)
      (a₂ : TRef sig₂ Ta) (b₂ : TRef sig₂ Tb) (y₂ : TRef sig₂ T)
      (f : Ta.Contents Val → Tb.Contents Val → T.Contents Val) (ha : (⟨Ta, a₁, a₂⟩ : Pair sig₁ sig₂) ∈ L)
      (hb : (⟨Tb, b₁, b₂⟩ : Pair sig₁ sig₂) ∈ L)
      (h₁ : n₁ ≤ num y₁) (h₂ : n₂ ≤ num y₂) (h : Lock goal (⟨T, y₁, y₂⟩ :: L) (num y₁ + 1) (num y₂ + 1) ks rs) :
      Lock goal L n₁ n₂ (TRef.binary a₁ b₁ y₁ f :: ks) (TRef.binary a₂ b₂ y₂ f :: rs)
  | reshape {L n₁ n₂ ks rs T Ta} (x₁ : TRef sig₁ Ta) (y₁ : TRef sig₁ T) (x₂ : TRef sig₂ Ta) (y₂ : TRef sig₂ T)
      (he : Ta.elt = T.elt) (hn : Ta.shape.ShapeCasts T.shape) (hx : (⟨Ta, x₁, x₂⟩ : Pair sig₁ sig₂) ∈ L)
      (h₁ : n₁ ≤ num y₁) (h₂ : n₂ ≤ num y₂) (h : Lock goal (⟨T, y₁, y₂⟩ :: L) (num y₁ + 1) (num y₂ + 1) ks rs) :
      Lock goal L n₁ n₂ (TRef.reshape x₁ y₁ he hn :: ks) (TRef.reshape x₂ y₂ he hn :: rs)

/-- The pairs in `L` hold equal arrays, in buffers numbered below `n₁` and `n₂`. -/
def Agree (L : List (Pair sig₁ sig₂)) (n₁ n₂ : ℕ) (V₁ : Valuation τ sig₁ Val) (V₂ : Valuation τ sig₂ Val) : Prop :=
  ∀ p ∈ L, val p.2.1 V₁ = val p.2.2 V₂ ∧ num p.2.1 < n₁ ∧ num p.2.2 < n₂

/-- One more pair: the results of two operations that write only these results, with equal arrays. -/
theorem Agree.cons {L : List (Pair sig₁ sig₂)} {n₁ n₂ : ℕ} {V₁ : Valuation τ sig₁ Val} {V₂ : Valuation τ sig₂ Val}
    {T : BufTy} {y₁ : TRef sig₁ T} {y₂ : TRef sig₂ T} {o₁ : HloOp τ sig₁ Val} {o₂ : HloOp τ sig₂ Val}
    (hL : Agree L n₁ n₂ V₁ V₂) (h₁ : n₁ ≤ num y₁) (h₂ : n₂ ≤ num y₂)
    (w₁ : o₁.writes = {Proc.devRef .tc y₁.ref}) (w₂ : o₂.writes = {Proc.devRef .tc y₂.ref})
    (hv : val y₁ (o₁.result V₁) = val y₂ (o₂.result V₂)) :
    Agree (⟨T, y₁, y₂⟩ :: L) (num y₁ + 1) (num y₂ + 1) (o₁.result V₁) (o₂.result V₂) := by
  intro p hp
  rcases List.mem_cons.mp hp with rfl | hp
  · exact ⟨hv, Nat.lt_succ_self _, Nat.lt_succ_self _⟩
  · obtain ⟨e, b₁, b₂⟩ := hL p hp
    refine ⟨?_, by omega, by omega⟩
    have n₁ : Proc.devRef (τ := τ) .tc p.2.1.ref ∉ o₁.writes := by
      rw [w₁, Finset.mem_singleton]; exact devRef_ne_of_ne (ref_ne (b₁.trans_le h₁))
    have n₂ : Proc.devRef (τ := τ) .tc p.2.2.ref ∉ o₂.writes := by
      rw [w₂, Finset.mem_singleton]; exact devRef_ne_of_ne (ref_ne (b₂.trans_le h₂))
    unfold val at e ⊢
    rw [o₁.result_of_not_mem V₁ n₁, o₂.result_of_not_mem V₂ n₂, e]

/-- Matching lines, from contents that agree on the pairs in `L`, leave equal arrays in the pair `goal`. -/
theorem Lock.sound {goal : Pair sig₁ sig₂} {L : List (Pair sig₁ sig₂)} {n₁ n₂ : ℕ} {ks : List (HloOp τ sig₁ Val)}
    {rs : List (HloOp τ sig₂ Val)} (h : Lock goal L n₁ n₂ ks rs) :
    ∀ {V₁ : Valuation τ sig₁ Val} {V₂ : Valuation τ sig₂ Val}, Agree L n₁ n₂ V₁ V₂ →
      val goal.2.1 (after ks V₁) = val goal.2.2 (after rs V₂) := by
  induction h with
  | done h => exact fun hL => (hL _ h).1
  | nullary y₁ y₂ v h₁ h₂ _ ih => exact fun hL => ih (hL.cons h₁ h₂ rfl rfl (by rw [val_nullary, val_nullary]))
  | unary x₁ y₁ x₂ y₂ f hx h₁ h₂ _ ih =>
    exact fun hL => ih (hL.cons h₁ h₂ rfl rfl (by rw [val_unary, val_unary, (hL _ hx).1]))
  | binary a₁ b₁ y₁ a₂ b₂ y₂ f ha hb h₁ h₂ _ ih =>
    exact fun hL => ih (hL.cons h₁ h₂ rfl rfl (by rw [val_binary, val_binary, (hL _ ha).1, (hL _ hb).1]))
  | reshape x₁ y₁ x₂ y₂ he hn hx h₁ h₂ _ ih =>
    exact fun hL => ih (hL.cons h₁ h₂ rfl rfl (by rw [val_reshape, val_reshape, (hL _ hx).1]))

/-- What the second of two matching lines is made of: operations on the TensorCore's buffers, each determining its
    results, none writing a buffer numbered below `n₂`. -/
theorem Lock.ops {goal : Pair sig₁ sig₂} {L : List (Pair sig₁ sig₂)} {n₁ n₂ : ℕ} {ks : List (HloOp τ sig₁ Val)}
    {rs : List (HloOp τ sig₂ Val)} (h : Lock goal L n₁ n₂ ks rs) :
    ∀ op ∈ rs, op.bufs ⊆ tcRefs τ sig₂ ∧ op.fresh = ∅
      ∧ ∀ r : Ref sig₂ .tc, r.idx.val < n₂ → Proc.devRef (τ := τ) .tc r ∉ op.writes := by
  have key : ∀ {T : BufTy} {y : TRef sig₂ T} {n : ℕ} {o : HloOp τ sig₂ Val} {os : List (HloOp τ sig₂ Val)}
      (_ : n ≤ num y) (_ : o.bufs ⊆ tcRefs τ sig₂) (_ : o.fresh = ∅) (_ : o.writes = {Proc.devRef .tc y.ref})
      (_ : ∀ op ∈ os, op.bufs ⊆ tcRefs τ sig₂ ∧ op.fresh = ∅
        ∧ ∀ r : Ref sig₂ .tc, r.idx.val < num y + 1 → Proc.devRef (τ := τ) .tc r ∉ op.writes),
      ∀ op ∈ o :: os, op.bufs ⊆ tcRefs τ sig₂ ∧ op.fresh = ∅
        ∧ ∀ r : Ref sig₂ .tc, r.idx.val < n → Proc.devRef (τ := τ) .tc r ∉ op.writes := by
    intro T y n o os hn hb hf hw ih op hop
    rcases List.mem_cons.mp hop with rfl | hop
    · refine ⟨hb, hf, fun r hr => ?_⟩
      rw [hw, Finset.mem_singleton]
      refine devRef_ne_of_ne fun e => ?_
      subst e
      exact absurd (hr.trans_le hn) (lt_irrefl _)
    · exact ⟨(ih op hop).1, (ih op hop).2.1, fun r hr => (ih op hop).2.2 r (by omega)⟩
  induction h with
  | done h => exact fun op hop => nomatch hop
  | nullary y₁ y₂ v h₁ h₂ _ ih => exact key h₂ (nullary_bufs_sub ..) rfl rfl ih
  | unary x₁ y₁ x₂ y₂ f hx h₁ h₂ _ ih => exact key h₂ (unary_bufs_sub ..) rfl rfl ih
  | binary a₁ b₁ y₁ a₂ b₂ y₂ f ha hb h₁ h₂ _ ih => exact key h₂ (binary_bufs_sub ..) rfl rfl ih
  | reshape x₁ y₁ x₂ y₂ he hn hx h₁ h₂ _ ih => exact key h₂ (reshape_bufs_sub ..) rfl rfl ih

end lock

end Cert.Lockstep

end
-- ==== Proof.RefLine.lean ====
/- The reference program as a straight line of operations.  Its @main is written out below up to the uniform draw and
   after it; the draw itself (`fn_uniform.body`, the counter-based random generator) is only shown to be SOME line that
   matches the kernel's own host operations one by one, so both programs hold the same noise. -/
module

public import proofs.«01_k».proof.Proof.Lockstep
public import proofs.«01_k».proof.Proof.Gen.KernelIdeal.Frame
public import proofs.«01_k».proof.Proof.Gen.ReferenceIdeal

@[expose] public section

noncomputable section

namespace Cert.ReferenceIdeal.Line

open Idealize.ShloMosaic Idealize.SL.Sem Idealize.ShloMosaic.StableHlo Cert.Lockstep

variable {F : FTy → Type} [FloatOps F]

open Gen

/-- The arrays of shape `s` with entries of type `e`. -/
abbrev Arr (F : FTy → Type) (s : Shape) (e : EltTy) : Type := (⟨s, e⟩ : BufTy).Contents (Elt F)

/-- The reference's operations up to `kappa` times the products of normalised rows. -/
abbrev scoreOps : List (HloOp τ sig (Elt F)) :=
  [ binary main_arg0 main_arg0 main_v0 (mulf : Arr F S16384x256 .f32 → Arr F S16384x256 .f32 → Arr F S16384x256 .f32),
    nullary main_cst (constant S_ .f32 0x00000000#32),
    binary main_v0 main_cst main_v1 ((fun x v => Host.reduceAdd x v reducesTo_S16384x256_S16384_d1 h_S_)
      : Arr F S16384x256 .f32 → Arr F S_ .f32 → Arr F S16384 .f32),
    unary main_v1 main_v2 (broadcastInDim S16384x1 ![0] bcast_S16384_S16384x1_0
      : Arr F S16384 .f32 → Arr F S16384x1 .f32),
    unary main_v2 main_v3 (Host.sqrt : Arr F S16384x1 .f32 → Arr F S16384x1 .f32),
    nullary main_cst_0 (constant S_ .f32 0x2B8CBCCC#32),
    unary main_cst_0 main_v4 (broadcastInDim S16384x1 ![] bcast_S_S16384x1 : Arr F S_ .f32 → Arr F S16384x1 .f32),
    binary main_v3 main_v4 main_v5 (maximumf : Arr F S16384x1 .f32 → Arr F S16384x1 .f32 → Arr F S16384x1 .f32),
    unary main_v5 main_v6 (broadcastInDim S16384x256 ![0, 1] bcast_S16384x1_S16384x256_0_1
      : Arr F S16384x1 .f32 → Arr F S16384x256 .f32),
    binary main_arg0 main_v6 main_v7 (Host.divf
      : Arr F S16384x256 .f32 → Arr F S16384x256 .f32 → Arr F S16384x256 .f32),
    binary main_arg1 main_arg1 main_v8 (mulf : Arr F S1024x256 .f32 → Arr F S1024x256 .f32 → Arr F S1024x256 .f32),
    nullary main_cst_1 (constant S_ .f32 0x00000000#32),
    binary main_v8 main_cst_1 main_v9 ((fun x v => Host.reduceAdd x v reducesTo_S1024x256_S1024_d1 h_S_)
      : Arr F S1024x256 .f32 → Arr F S_ .f32 → Arr F S1024 .f32),
    unary main_v9 main_v10 (broadcastInDim S1024x1 ![0] bcast_S1024_S1024x1_0 : Arr F S1024 .f32 → Arr F S1024x1 .f32),
    unary main_v10 main_v11 (Host.sqrt : Arr F S1024x1 .f32 → Arr F S1024x1 .f32),
    nullary main_cst_2 (constant S_ .f32 0x2B8CBCCC#32),
    unary main_cst_2 main_v12 (broadcastInDim S1024x1 ![] bcast_S_S1024x1 : Arr F S_ .f32 → Arr F S1024x1 .f32),
    binary main_v11 main_v12 main_v13 (maximumf : Arr F S1024x1 .f32 → Arr F S1024x1 .f32 → Arr F S1024x1 .f32),
    unary main_v13 main_v14 (broadcastInDim S1024x256 ![0, 1] bcast_S1024x1_S1024x256_0_1
      : Arr F S1024x1 .f32 → Arr F S1024x256 .f32),
    binary main_arg1 main_v14 main_v15 (Host.divf : Arr F S1024x256 .f32 → Arr F S1024x256 .f32 → Arr F S1024x256 .f32),
    nullary main_cst_3 (constant S_ .f32 0xC03FBA14#32),
    unary main_cst_3 main_v16 (Host.exp : Arr F S_ .f32 → Arr F S_ .f32),
    nullary main_cst_4 (constant S_ .f32 0x3F800000#32),
    binary main_v16 main_cst_4 main_v17 (addf : Arr F S_ .f32 → Arr F S_ .f32 → Arr F S_ .f32),
    unary main_v15 main_v18 ((transpose S256x1024 [1, 0] · transposes_S1024x256_S256x1024_1_0)
      : Arr F S1024x256 .f32 → Arr F S256x1024 .f32),
    binary main_v7 main_v18 main_v19 ((fun l r => Host.dotGeneral dot_S16384x256_S256x1024_S16384x1024_1_0_0_1_n_n none l r)
      : Arr F S16384x256 .f32 → Arr F S256x1024 .f32 → Arr F S16384x1024 .f32),
    unary main_v17 main_v20 (broadcastInDim S16384x1024 ![] bcast_S_S16384x1024
      : Arr F S_ .f32 → Arr F S16384x1024 .f32),
    binary main_v20 main_v19 main_v21 (mulf
      : Arr F S16384x1024 .f32 → Arr F S16384x1024 .f32 → Arr F S16384x1024 .f32) ]

/-- The random generator's key and the bounds of the uniform draw. -/
abbrev seedOps : List (HloOp τ sig (Elt F)) :=
  [ TRef.nullary (.of main_c : TRef sig ⟨S_, .i32⟩) (constantI S_ 32 42#32),
    TRef.nullary (.of main_c_5 : TRef sig ⟨S_, .i32⟩) (constantI S_ 32 32#32),
    TRef.binary (.of main_c : TRef sig ⟨S_, .i32⟩) (.of main_c_5 : TRef sig ⟨S_, .i32⟩) (.of main_v22 : TRef sig ⟨S_, .i32⟩)
      Host.shrui,
    TRef.unary (.of main_v22 : TRef sig ⟨S_, .i32⟩) (.of main_v23 : TRef sig ⟨S_, .i32⟩) id,
    TRef.unary (.of main_v23 : TRef sig ⟨S_, .i32⟩) (.of main_v24 : TRef sig ⟨S1, .i32⟩)
      (broadcastInDim S1 ![] bcast_S_S1),
    TRef.nullary (.of main_c_6 : TRef sig ⟨S_, .i32⟩) (constantI S_ 32 4294967295#32),
    TRef.binary (.of main_c : TRef sig ⟨S_, .i32⟩) (.of main_c_6 : TRef sig ⟨S_, .i32⟩) (.of main_v25 : TRef sig ⟨S_, .i32⟩)
      andi,
    TRef.unary (.of main_v25 : TRef sig ⟨S_, .i32⟩) (.of main_v26 : TRef sig ⟨S_, .i32⟩) id,
    TRef.unary (.of main_v26 : TRef sig ⟨S_, .i32⟩) (.of main_v27 : TRef sig ⟨S1, .i32⟩)
      (broadcastInDim S1 ![] bcast_S_S1),
    TRef.binary (.of main_v24 : TRef sig ⟨S1, .i32⟩) (.of main_v27 : TRef sig ⟨S1, .i32⟩) (.of main_v28 : TRef sig ⟨S2, .i32⟩)
      (fun a b => concatenate S2 0 [⟨S1, a⟩, ⟨S1, b⟩] concatenates_S1_S1_S2_d0),
    TRef.nullary (.of main_cst_7 : TRef sig ⟨S_, .f32⟩) (constant S_ .f32 0x00000000#32),
    TRef.nullary (.of main_cst_8 : TRef sig ⟨S_, .f32⟩) (constant S_ .f32 0x3F800000#32) ]

/-- The noise, from the uniform draw. -/
abbrev noiseOps : List (HloOp τ sig (Elt F)) :=
  [ TRef.nullary (.of main_cst_9 : TRef sig ⟨S_, .f32⟩) (constant S_ .f32 0x2EDBE6FF#32),
    TRef.unary (.of main_cst_9 : TRef sig ⟨S_, .f32⟩) (.of main_v30 : TRef sig ⟨S16384x1024, .f32⟩)
      (broadcastInDim S16384x1024 ![] bcast_S_S16384x1024),
    TRef.binary (.of main_v29 : TRef sig ⟨S16384x1024, .f32⟩) (.of main_v30 : TRef sig ⟨S16384x1024, .f32⟩) (.of main_v31 : TRef sig ⟨S16384x1024, .f32⟩)
      addf,
    TRef.unary (.of main_v31 : TRef sig ⟨S16384x1024, .f32⟩) (.of main_v32 : TRef sig ⟨S16384x1024, .f32⟩) Host.log,
    TRef.unary (.of main_v32 : TRef sig ⟨S16384x1024, .f32⟩) (.of main_v33 : TRef sig ⟨S16384x1024, .f32⟩) Host.negf,
    TRef.nullary (.of main_cst_10 : TRef sig ⟨S_, .f32⟩) (constant S_ .f32 0x2EDBE6FF#32),
    TRef.unary (.of main_cst_10 : TRef sig ⟨S_, .f32⟩) (.of main_v34 : TRef sig ⟨S16384x1024, .f32⟩)
      (broadcastInDim S16384x1024 ![] bcast_S_S16384x1024),
    TRef.binary (.of main_v33 : TRef sig ⟨S16384x1024, .f32⟩) (.of main_v34 : TRef sig ⟨S16384x1024, .f32⟩) (.of main_v35 : TRef sig ⟨S16384x1024, .f32⟩)
      addf,
    TRef.unary (.of main_v35 : TRef sig ⟨S16384x1024, .f32⟩) (.of main_v36 : TRef sig ⟨S16384x1024, .f32⟩) Host.log,
    TRef.unary (.of main_v36 : TRef sig ⟨S16384x1024, .f32⟩) (.of main_v37 : TRef sig ⟨S16384x1024, .f32⟩) Host.negf ]

/-- The operations after the noise: the soft tokens and their product with the normalised codebook. -/
abbrev tokenOps : List (HloOp τ sig (Elt F)) :=
  [ binary main_v21 main_v37 main_v38 (addf : Arr F S16384x1024 .f32 → Arr F S16384x1024 .f32 → Arr F S16384x1024 .f32),
    nullary main_cst_11 (constant S_ .f32 0x3F000000#32),
    unary main_cst_11 main_v39 (broadcastInDim S16384x1024 ![] bcast_S_S16384x1024
      : Arr F S_ .f32 → Arr F S16384x1024 .f32),
    binary main_v38 main_v39 main_v40 (Host.divf
      : Arr F S16384x1024 .f32 → Arr F S16384x1024 .f32 → Arr F S16384x1024 .f32),
    nullary main_cst_12 (constant S_ .f32 0xFF800000#32),
    binary main_v40 main_cst_12 main_v41 ((fun x v => Host.reduce FloatOps.maximumf x v reducesTo_S16384x1024_S16384_d1 h_S_)
      : Arr F S16384x1024 .f32 → Arr F S_ .f32 → Arr F S16384 .f32),
    nullary main_cst_13 (constant S_ .f32 0xFF800000#32),
    unary main_cst_13 main_v42 (broadcastInDim S16384 ![] bcast_S_S16384 : Arr F S_ .f32 → Arr F S16384 .f32),
    binary main_v42 main_v41 main_v43 (maximumf : Arr F S16384 .f32 → Arr F S16384 .f32 → Arr F S16384 .f32),
    unary main_v43 main_v44 (broadcastInDim S16384x1 ![0] bcast_S16384_S16384x1_0
      : Arr F S16384 .f32 → Arr F S16384x1 .f32),
    unary main_v44 main_v45 (broadcastInDim S16384x1024 ![0, 1] bcast_S16384x1_S16384x1024_0_1
      : Arr F S16384x1 .f32 → Arr F S16384x1024 .f32),
    binary main_v40 main_v45 main_v46 (subf : Arr F S16384x1024 .f32 → Arr F S16384x1024 .f32 → Arr F S16384x1024 .f32),
    unary main_v46 main_v47 (Host.exp : Arr F S16384x1024 .f32 → Arr F S16384x1024 .f32),
    nullary main_cst_14 (constant S_ .f32 0x00000000#32),
    binary main_v47 main_cst_14 main_v48 ((fun x v => Host.reduceAdd x v reducesTo_S16384x1024_S16384_d1 h_S_)
      : Arr F S16384x1024 .f32 → Arr F S_ .f32 → Arr F S16384 .f32),
    unary main_v48 main_v49 (broadcastInDim S16384x1 ![0] bcast_S16384_S16384x1_0
      : Arr F S16384 .f32 → Arr F S16384x1 .f32),
    unary main_v49 main_v50 (broadcastInDim S16384x1024 ![0, 1] bcast_S16384x1_S16384x1024_0_1
      : Arr F S16384x1 .f32 → Arr F S16384x1024 .f32),
    binary main_v47 main_v50 main_v51 (Host.divf
      : Arr F S16384x1024 .f32 → Arr F S16384x1024 .f32 → Arr F S16384x1024 .f32),
    binary main_v51 main_v15 main_v52 ((fun l r => Host.dotGeneral dot_S16384x1024_S1024x256_S16384x256_1_0_0_1_n_n none l r)
      : Arr F S16384x1024 .f32 → Arr F S1024x256 .f32 → Arr F S16384x256 .f32) ]

set_option maxRecDepth 65536 in
set_option maxHeartbeats 4000000 in
/-- The reference's uniform draw is a line `u` of operations, and between `seedOps` and `noiseOps` it matches the
    host operations that the kernel runs before its launch: the arrays `main_call0_v15` of the kernel and `main_v37`
    of the reference, the noise, correspond. -/
theorem uniform_line : ∃ u : List (HloOp τ sig (Elt F)),
    fn_uniform.body (F := F) (.of main_v28) (.of main_cst_7) (.of main_cst_8) main_call0 = seq u
    ∧ Lock (Val := Elt F) (τ := τ)
        (⟨⟨S16384x1024, .f32⟩, .of Cert.KernelIdeal.main_call0_v15, .of main_v37⟩ : Pair Cert.KernelIdeal.sig sig)
        [] 2 30 Cert.KernelIdeal.Gen.hostOps0 (seedOps ++ (u ++ noiseOps)) := by
  apply Exists.intro
  apply And.intro
  · apply Line.eq_seq
    unfold fn_uniform.body fn_threefry2x32.body fn_threefry2x32.body_part0 fn_threefry2x32.body_part1
      fn_threefry2x32.body_part2 fn_threefry2x32.body_part3
    repeat first
      | apply Line.done
      | apply Line.one
      | apply Line.bind
  · simp only [seedOps, noiseOps, List.cons_append, List.nil_append]
    repeat first
      | with_reducible
        refine Lock.nullary _ _ _ (by decide) (by decide) ?_
      | with_reducible
        refine Lock.unary _ _ _ _ _
          (by repeat first | exact List.mem_cons_self | refine List.mem_cons_of_mem _ ?_) (by decide) (by decide) ?_
      | with_reducible
        refine Lock.binary _ _ _ _ _ _ _
          (by repeat first | exact List.mem_cons_self | refine List.mem_cons_of_mem _ ?_)
          (by repeat first | exact List.mem_cons_self | refine List.mem_cons_of_mem _ ?_) (by decide) (by decide) ?_
      | with_reducible
        refine Lock.reshape _ _ _ _ _ _
          (by repeat first | exact List.mem_cons_self | refine List.mem_cons_of_mem _ ?_) (by decide) (by decide) ?_
    exact Lock.done (List.Mem.head _)

end Cert.ReferenceIdeal.Line

end
-- ==== Proof.RefRun.lean ====
/- The reference program's run: what its two result arrays and its two argument arrays hold at the end, in terms of the
   arguments and of the noise. -/
module

public import proofs.«01_k».proof.Proof.RefLine

@[expose] public section

noncomputable section

namespace Cert.ReferenceIdeal.Line

open Idealize.ShloMosaic Idealize.ShloMosaic.TcCoe Idealize.SL.Sem Idealize.ShloMosaic.StableHlo Cert.Lockstep
open Gen

variable {F : FTy → Type} [FloatOps F]

set_option maxRecDepth 65536 in
set_option maxHeartbeats 4000000 in
/-- @main is a straight line: the operations written out in `RefLine`, around the uniform draw's. -/
theorem main_eq {u : List (HloOp τ sig (Elt F))}
    (hu : fn_uniform.body (F := F) (.of main_v28) (.of main_cst_7) (.of main_cst_8) main_call0 = seq u) (d : Dev nD) :
    main (F := F) d = seq (scoreOps ++ ((seedOps ++ (u ++ noiseOps)) ++ tokenOps)) := by
  rw [List.append_assoc seedOps, List.append_assoc u]
  apply Line.eq_seq
  unfold main main_part0 main_part1
  repeat first
    | apply Line.of_eq_seq hu
    | apply Line.done
    | apply Line.one
    | apply Line.bind

/-! ## What the lines compute -/

/-- The rows of `z`, each divided by its length, the length taken no smaller than `eps`. -/
def unitZ (z : FVec F S16384x256 .f32) : FVec F S16384x256 .f32 :=
  Host.divf z (broadcastInDim S16384x256 ![0, 1] bcast_S16384x1_S16384x256_0_1
    (maximumf (Host.sqrt (broadcastInDim S16384x1 ![0] bcast_S16384_S16384x1_0
        (Host.reduceAdd (mulf z z) (constant S_ .f32 0x00000000#32) reducesTo_S16384x256_S16384_d1 h_S_)))
      (broadcastInDim S16384x1 ![] bcast_S_S16384x1 (constant S_ .f32 0x2B8CBCCC#32))))

/-- The codebook's rows likewise. -/
def unitE (e : FVec F S1024x256 .f32) : FVec F S1024x256 .f32 :=
  Host.divf e (broadcastInDim S1024x256 ![0, 1] bcast_S1024x1_S1024x256_0_1
    (maximumf (Host.sqrt (broadcastInDim S1024x1 ![0] bcast_S1024_S1024x1_0
        (Host.reduceAdd (mulf e e) (constant S_ .f32 0x00000000#32) reducesTo_S1024x256_S1024_d1 h_S_)))
      (broadcastInDim S1024x1 ![] bcast_S_S1024x1 (constant S_ .f32 0x2B8CBCCC#32))))

/-- `kappa` times the product of the normalised `z` with the transpose of the normalised codebook. -/
def score (z : FVec F S16384x256 .f32) (e : FVec F S1024x256 .f32) : FVec F S16384x1024 .f32 :=
  mulf (broadcastInDim S16384x1024 ![] bcast_S_S16384x1024
      (addf (Host.exp (constant S_ .f32 0xC03FBA14#32)) (constant S_ .f32 0x3F800000#32)))
    (Host.dotGeneral dot_S16384x256_S256x1024_S16384x1024_1_0_0_1_n_n none (unitZ z)
      (transpose S256x1024 [1, 0] (unitE e) transposes_S1024x256_S256x1024_1_0))

/-- Scores plus noise, over the temperature. -/
def warm (s g : FVec F S16384x1024 .f32) : FVec F S16384x1024 .f32 :=
  Host.divf (addf s g) (broadcastInDim S16384x1024 ![] bcast_S_S16384x1024 (constant S_ .f32 0x3F000000#32))

/-- The greatest entry of each row. -/
def rowMax (w : FVec F S16384x1024 .f32) : FVec F S16384 .f32 :=
  Host.reduce FloatOps.maximumf w (constant S_ .f32 0xFF800000#32) reducesTo_S16384x1024_S16384_d1 h_S_

/-- The same, taken no smaller than −∞. -/
def peak (w : FVec F S16384x1024 .f32) : FVec F S16384 .f32 :=
  maximumf (broadcastInDim S16384 ![] bcast_S_S16384 (constant S_ .f32 0xFF800000#32)) (rowMax w)

/-- The exponential of each entry less its row's greatest. -/
def lifted (w : FVec F S16384x1024 .f32) : FVec F S16384x1024 .f32 :=
  Host.exp (subf w (broadcastInDim S16384x1024 ![0, 1] bcast_S16384x1_S16384x1024_0_1
    (broadcastInDim S16384x1 ![0] bcast_S16384_S16384x1_0 (peak w))))

/-- Each entry over its row's sum. -/
def shares (p : FVec F S16384x1024 .f32) : FVec F S16384x1024 .f32 :=
  Host.divf p (broadcastInDim S16384x1024 ![0, 1] bcast_S16384x1_S16384x1024_0_1
    (broadcastInDim S16384x1 ![0] bcast_S16384_S16384x1_0
      (Host.reduceAdd p (constant S_ .f32 0x00000000#32) reducesTo_S16384x1024_S16384_d1 h_S_)))

/-- The first result: the softmax of the warmed scores. -/
def tokens (z : FVec F S16384x256 .f32) (e : FVec F S1024x256 .f32) (g : FVec F S16384x1024 .f32) :
    FVec F S16384x1024 .f32 := shares (lifted (warm (score z e) g))

/-- The second result: the tokens' mixture of the normalised codebook rows. -/
def mixed (z : FVec F S16384x256 .f32) (e : FVec F S1024x256 .f32) (g : FVec F S16384x1024 .f32) :
    FVec F S16384x256 .f32 :=
  Host.dotGeneral dot_S16384x1024_S1024x256_S16384x256_1_0_0_1_n_n none (tokens z e g) (unitE e)

section reads

variable (V : Valuation τ sig (Elt F))

/-- After the scores, the normalised codebook. -/
theorem score_v15 : after scoreOps V (Proc.devRef .tc main_v15) = unitE (V (Proc.devRef .tc main_arg1)) := by
  after_results
  rfl
/-- After the scores, the scores. -/
theorem score_v21 : after scoreOps V (Proc.devRef .tc main_v21)
    = score (V (Proc.devRef .tc main_arg0)) (V (Proc.devRef .tc main_arg1)) := by
  after_results
  rfl
/-- The scores leave `z` as it was. -/
theorem score_arg0 : after (scoreOps (F := F)) V (Proc.devRef .tc main_arg0) = V (Proc.devRef .tc main_arg0) := by
  after_results
/-- The scores leave the codebook as it was. -/
theorem score_arg1 : after (scoreOps (F := F)) V (Proc.devRef .tc main_arg1) = V (Proc.devRef .tc main_arg1) := by
  after_results
/-- After the tokens, the tokens. -/
theorem token_v51 : after tokenOps V (Proc.devRef .tc main_v51)
    = shares (lifted (warm (V (Proc.devRef .tc main_v21)) (V (Proc.devRef .tc main_v37)))) := by
  after_results
  rfl
/-- After the tokens, their product with the codebook. -/
theorem token_v52 : after tokenOps V (Proc.devRef .tc main_v52)
    = Host.dotGeneral dot_S16384x1024_S1024x256_S16384x256_1_0_0_1_n_n none
        (shares (lifted (warm (V (Proc.devRef .tc main_v21)) (V (Proc.devRef .tc main_v37)))))
        (V (Proc.devRef .tc main_v15)) := by
  after_results
  rfl
/-- The tokens leave `z` as it was. -/
theorem token_arg0 : after (tokenOps (F := F)) V (Proc.devRef .tc main_arg0) = V (Proc.devRef .tc main_arg0) := by
  after_results
/-- The tokens leave the codebook as it was. -/
theorem token_arg1 : after (tokenOps (F := F)) V (Proc.devRef .tc main_arg1) = V (Proc.devRef .tc main_arg1) := by
  after_results

end reads

/-! ## The run -/

/-- A line run after another. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

/-- The kernel's noise: what the host operations before its launch leave in `main_call0_v15`, from the contents `V`. -/
abbrev noise (V : Valuation Cert.KernelIdeal.τ Cert.KernelIdeal.sig (Elt F)) : FVec F S16384x1024 .f32 :=
  after Cert.KernelIdeal.Gen.hostOps0 V (Proc.devRef .tc Cert.KernelIdeal.main_call0_v15)

/-- Every run of the reference ends with `tokens` and `mixed` of its arguments and of the kernel's noise in its two
    result arrays, whatever contents the kernel's host operations start from, and with its arguments unchanged. -/
theorem run (V : Dev nD → Valuation Cert.KernelIdeal.τ Cert.KernelIdeal.sig (Elt F))
    (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v51)
          = tokens (m ((c : Thread nD τ).loc main_arg0)) (m ((c : Thread nD τ).loc main_arg1)) (noise (V c))
      ∧ r.2.mem ((c : Thread nD τ).loc main_v52)
          = mixed (m ((c : Thread nD τ).loc main_arg0)) (m ((c : Thread nD τ).loc main_arg1)) (noise (V c))
      ∧ r.2.mem ((c : Thread nD τ).loc main_arg0) = m ((c : Thread nD τ).loc main_arg0)
      ∧ r.2.mem ((c : Thread nD τ).loc main_arg1) = m ((c : Thread nD τ).loc main_arg1) := by
  obtain ⟨u, hu, hlock⟩ := uniform_line (F := F)
  have hmid := hlock.ops
  have hscore : (scoreOps (F := F)).Forall fun op => op.bufs ⊆ tcRefs τ sig := by
    simp only [scoreOps, List.Forall, nullary_bufs_sub, unary_bufs_sub, binary_bufs_sub, and_self]
  have htoken : (tokenOps (F := F)).Forall fun op => op.bufs ⊆ tcRefs τ sig := by
    simp only [tokenOps, List.Forall, nullary_bufs_sub, unary_bufs_sub, binary_bufs_sub, and_self]
  have hscore' : (scoreOps (F := F)).Forall fun op => op.fresh = ∅ := by repeat' constructor
  have htoken' : (tokenOps (F := F)).Forall fun op => op.fresh = ∅ := by repeat' constructor
  have hrun := run_seq (by decide) (by decide) defs main
    (fun _ => scoreOps ++ ((seedOps ++ (u ++ noiseOps)) ++ tokenOps)) (main_eq hu)
    (fun _ => List.forall_iff_forall_mem.mpr fun op hop => by
      rcases List.mem_append.mp hop with h | h
      · exact List.forall_iff_forall_mem.mp hscore op h
      · rcases List.mem_append.mp h with h | h
        · exact (hmid op h).1
        · exact List.forall_iff_forall_mem.mp htoken op h) m ρ
    (fun _ op hop => by
      rcases List.mem_append.mp hop with h | h
      · exact List.forall_iff_forall_mem.mp hscore' op h
      · rcases List.mem_append.mp h with h | h
        · exact (hmid op h).2.1
        · exact List.forall_iff_forall_mem.mp htoken' op h)
  refine (θ_run defs _ _).mono (fun r h c => ?_) hrun
  set V₀ := launchContents m c with hV₀
  set V₁ := after scoreOps V₀ with hV₁
  set V₂ := after (seedOps ++ (u ++ noiseOps)) V₁ with hV₂
  have hb (b : Ref sig .tc) : r.2.mem ((c : Thread nD τ).loc b) = after tokenOps V₂ (Proc.devRef .tc b) :=
    (h c b).trans (by rw [after_append, after_append])
  have keep (b : Ref sig .tc) (hn : b.idx.val < 30) : V₂ (Proc.devRef .tc b) = V₁ (Proc.devRef .tc b) :=
    after_of_forall_not_mem _ V₁ fun op hop => (hmid op hop).2.2 b hn
  have hg : V₂ (Proc.devRef .tc main_v37) = noise (V c) :=
    (hlock.sound (V₁ := V c) (V₂ := V₁) (fun p hp => nomatch hp)).symm
  refine ⟨?_, ?_, ?_, ?_⟩
  · rw [hb, token_v51, hg, keep _ (by decide), hV₁, score_v21]; rfl
  · rw [hb, token_v52, hg, keep _ (by decide), keep _ (by decide), hV₁, score_v21, score_v15]; rfl
  · rw [hb, token_arg0, keep _ (by decide), hV₁, score_arg0]
  · rw [hb, token_arg1, keep _ (by decide), hV₁, score_arg1]

end Cert.ReferenceIdeal.Line

end
-- ==== Proof.RefRows.lean ====
/- The reference's two results row by row, on the extended reals: the same functions of a row of `z`, the codebook and a
   row of noise as the kernel's. -/
module

public import proofs.«01_k».proof.Proof.RefRun
public import proofs.«01_k».proof.Proof.Rows

@[expose] public section

noncomputable section

namespace Cert.Rows

open Idealize.ShloMosaic Cert.ReferenceIdeal Cert.ReferenceIdeal.Gen Cert.ReferenceIdeal.Line

set_option maxRecDepth 16384

/-- The reference's normalised codebook. -/
theorem unitE_apply (e : FVec Ideal S1024x256 .f32) (j : Fin 1024) (k : Fin 256) :
    unitE e (ix2 j k) = unitRow (row e j) k := by
  pointwise [unitE, unitRow, row]

/-- The reference's normalised `z`. -/
theorem unitZ_apply (z : FVec Ideal S16384x256 .f32) (i : Fin 16384) (k : Fin 256) :
    unitZ z (ix2 i k) = unitRow (row z i) k := by
  pointwise [unitZ, unitRow, row]

/-- The reference's scores. -/
theorem score_apply (z : FVec Ideal S16384x256 .f32) (e : FVec Ideal S1024x256 .f32) (i : Fin 16384) (j : Fin 1024) :
    score z e (ix2 i j)
      = (Ideal.exp (Ideal.ofBits .f32 0xC03FBA14#32) + 1) * (∑ k, unitRow (row z i) k * unitRow (row e j) k) := by
  pointwise [score, unitE_apply, unitZ_apply]

/-- Dividing by a half is doubling. -/
theorem div_half (x : EReal) :
    Ideal.div x (Ideal.ofBits .f32 0x3F000000#32) = x * Ideal.ofBits .f32 0x40000000#32 := by
  have half : Ideal.ofBits .f32 0x3F000000#32 = ((1 / 2 : ℝ) : EReal) := by
    simp [Ideal.ofBits, Ideal.ieee, -EReal.coe_mul]; norm_num
  have two : Ideal.ofBits .f32 0x40000000#32 = ((2 : ℝ) : EReal) := by
    simp [Ideal.ofBits, Ideal.ieee, -EReal.coe_mul]; norm_num
  rw [half, two, Ideal.div_coe (by norm_num)]
  norm_num

/-- The reference's warmed scores. -/
theorem warm_apply (z : FVec Ideal S16384x256 .f32) (e : FVec Ideal S1024x256 .f32) (g : FVec Ideal S16384x1024 .f32)
    (i : Fin 16384) (j : Fin 1024) :
    warm (score z e) g (ix2 i j) = warmRow (row z i) (row e) (row g i) j := by
  pointwise [warm, score_apply]
  exact div_half _

/-- The value the row maximum starts from. -/
theorem ninf : (constant S_ .f32 0xFF800000#32 : FVec Ideal S_ .f32) (Shape.Idx.first h_S_)
    = Ideal.ofBits .f32 0xFF800000#32 := rfl

/-- The reference's row maximum. -/
theorem rowMax_apply (w : FVec Ideal S16384x1024 .f32) (i : Fin 16384) :
    rowMax w (ix1 i) = Finset.univ.fold max (Ideal.ofBits .f32 0xFF800000#32) (row w i) := by
  unfold rowMax
  rw [rowFold_apply, ninf]

/-- Taking it no smaller than −∞ changes nothing. -/
theorem peak_apply (w : FVec Ideal S16384x1024 .f32) (i : Fin 16384) :
    peak w (ix1 i) = Finset.univ.fold max (Ideal.ofBits .f32 0xFF800000#32) (row w i) := by
  have hc : (broadcastInDim S16384 ![] bcast_S_S16384 (constant S_ .f32 0xFF800000#32) : FVec Ideal S16384 .f32) (ix1 i)
      = Ideal.ofBits .f32 0xFF800000#32 := rfl
  unfold peak
  rw [maximumf_at, hc, rowMax_apply, max_fold]

/-- The reference's exponentials. -/
theorem lifted_apply (w : FVec Ideal S16384x1024 .f32)
    (i : Fin 16384) (j : Fin 1024) :
    lifted w (ix2 i j) = Ideal.exp (w (ix2 i j) - peak w (ix1 i)) := by
  pointwise [lifted]

/-- The reference's shares of a row's sum. -/
theorem shares_apply (p : FVec Ideal S16384x1024 .f32)
    (i : Fin 16384) (j : Fin 1024) :
    shares p (ix2 i j) = Ideal.div (p (ix2 i j)) (∑ l, p (ix2 i l)) := by
  pointwise [shares]

/-- The reference's tokens. -/
theorem tokens_apply (z : FVec Ideal S16384x256 .f32) (e : FVec Ideal S1024x256 .f32) (g : FVec Ideal S16384x1024 .f32)
    (i : Fin 16384) (j : Fin 1024) :
    tokens z e g (ix2 i j) = tokenRow (row z i) (row e) (row g i) j := by
  have hw : row (warm (score z e) g) i = warmRow (row z i) (row e) (row g i) := funext (warm_apply z e g i)
  simp only [tokens, shares_apply, lifted_apply, peak_apply, warm_apply, hw, tokenRow, softRow]

/-- The reference's second result. -/
theorem mixed_apply (z : FVec Ideal S16384x256 .f32) (e : FVec Ideal S1024x256 .f32) (g : FVec Ideal S16384x1024 .f32)
    (i : Fin 16384) (k : Fin 256) :
    mixed z e g (ix2 i k) = mixedRow (row z i) (row e) (row g i) k := by
  pointwise [mixed, tokens_apply, unitE_apply, mixedRow]

/-- The reference's first result is the kernel's. -/
theorem tokens_eq (z : FVec Ideal S16384x256 .f32) (e : FVec Ideal S1024x256 .f32) (g : FVec Ideal S16384x1024 .f32) :
    tokens z e g = tokensOf z e g := by
  funext i
  rw [← ix2_eta i]
  exact tokens_apply z e g _ _

/-- And its second the kernel's second. -/
theorem mixed_eq (z : FVec Ideal S16384x256 .f32) (e : FVec Ideal S1024x256 .f32) (g : FVec Ideal S16384x1024 .f32) :
    mixed z e g = mixedOf z e g := by
  funext i
  rw [← ix2_eta i]
  exact mixed_apply z e g _ _

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Tile
public import proofs.«01_k».proof.Proof.RefRows
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Line.run (F := Ideal) (fun _ _ _ => default) m ρ)

/-- On the extended reals the kernel and the reference end with equal results. -/
theorem same_results : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Tile.tokensAt m c, fun c => Cert.KernelIdeal.Tile.mixedAt m c,
    Cert.KernelIdeal.Tile.run m ρ, ?_⟩
  refine (θ_run Cert.ReferenceIdeal.defs _ _).mono (fun r h c => ?_)
    (Cert.ReferenceIdeal.Line.run (F := Ideal) (fun c b => m (c, b)) m' ρ')
  obtain ⟨h0, h1, hz, he⟩ := h c
  refine ⟨h0.trans ?_, h1.trans ?_, hz, he⟩
  · rw [Cert.Rows.tokens_eq, (hargs c).1, (hargs c).2, ← Cert.KernelIdeal.Gen.V_main_arg0 m c,
      ← Cert.KernelIdeal.Gen.V_main_arg1 m c]
  · rw [Cert.Rows.mixed_eq, (hargs c).1, (hargs c).2, ← Cert.KernelIdeal.Gen.V_main_arg0 m c,
      ← Cert.KernelIdeal.Gen.V_main_arg1 m c]

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    same_results⟩

end Cert.Proof

end
